-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2048x2048 : Shape := ⟨2, ![2048, 2048]⟩
abbrev S12x512x512 : Shape := ⟨3, ![12, 512, 512]⟩
abbrev S12 : Shape := ⟨1, ![12]⟩
abbrev S_ : Shape := ⟨0, ![]⟩
abbrev S512x512 : Shape := ⟨2, ![512, 512]⟩
abbrev S1 : Shape := ⟨1, ![1]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .f32⟩
  | .local _ .vmem, ⟨0, _⟩ => ⟨S2048x512, .bf16⟩
  | .local _ .vmem, ⟨1, _⟩ => ⟨S512x2048, .bf16⟩
  | .local _ .vmem, ⟨2, _⟩ => ⟨S2048x2048, .f32⟩
  | .local _ .vmem, ⟨3, _⟩ => ⟨S2048x2048, .bf16⟩
  | .local _ .vmem, ⟨4, _⟩ => ⟨S12x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c0_i32_10
  let c4_i32_11 : BitVec 32 := 4#32
  let v14 : BitVec 32 := Scalar.remsi v13 c4_i32_11
  let c512_i32 : BitVec 32 := 512#32
  let v15 : BitVec 32 := Scalar.muli v14 c512_i32
  let v16 : Index := Scalar.indexCast v15
  let c0 : Index := 0#32
  ![v16.toNat, 0]
def k0_off2 (d0 : Dev nD) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c0_i32_10
  let c4_i32_11 : BitVec 32 := 4#32
  let v14 : BitVec 32 := Scalar.remsi v13 c4_i32_11
  let c512_i32 : BitVec 32 := 512#32
  let v15 : BitVec 32 := Scalar.muli v14 c512_i32
  let v23 : Index := Scalar.indexCast v15
  let c0_14 : Index := 0#32
  ![v23.toNat, 0]
def k0_off3 (d0 : Dev nD) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : BitVec 32 := Scalar.addi v2 c0_i32_15
  let c4_i32_16 : BitVec 32 := 4#32
  let v28 : BitVec 32 := Scalar.remsi v27 c4_i32_16
  let c512_i32_17 : BitVec 32 := 512#32
  let v29 : BitVec 32 := Scalar.muli v28 c512_i32_17
  let c0_i32_25 : BitVec 32 := 0#32
  ![v29.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v30 : BitVec 32 := Scalar.muli v4 c1_i32_21
  let v31 : BitVec 32 := Scalar.addi c0_i32_22 v30
  v31.toNat
def k0_off4 (d0 : Dev nD) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c0_i32_26
  let c4_i32_27 : BitVec 32 := 4#32
  let v40 : BitVec 32 := Scalar.remsi v39 c4_i32_27
  let c512_i32_28 : BitVec 32 := 512#32
  let v41 : BitVec 32 := Scalar.muli v40 c512_i32_28
  let c512_i32_36 : BitVec 32 := 512#32
  ![v41.toNat, 512]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_32 : BitVec 32 := 1#32
  let v42 : BitVec 32 := Scalar.muli v4 c1_i32_32
  let v43 : BitVec 32 := Scalar.addi c0_i32_33 v42
  v43.toNat
def k0_off5 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v51 : BitVec 32 := Scalar.addi v2 c0_i32_37
  let c4_i32_38 : BitVec 32 := 4#32
  let v52 : BitVec 32 := Scalar.remsi v51 c4_i32_38
  let c512_i32_39 : BitVec 32 := 512#32
  let v53 : BitVec 32 := Scalar.muli v52 c512_i32_39
  let c1024_i32 : BitVec 32 := 1024#32
  ![v53.toNat, 1024]
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_43 : BitVec 32 := 1#32
  let v54 : BitVec 32 := Scalar.muli v7 c1_i32_43
  let v55 : BitVec 32 := Scalar.addi c0_i32_44 v54
  v55.toNat
def k0_off6 (d0 : Dev nD) (c0_i32_47 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.addi v2 c0_i32_47
  let c4_i32_48 : BitVec 32 := 4#32
  let v64 : BitVec 32 := Scalar.remsi v63 c4_i32_48
  let c512_i32_49 : BitVec 32 := 512#32
  let v65 : BitVec 32 := Scalar.muli v64 c512_i32_49
  let c1536_i32 : BitVec 32 := 1536#32
  ![v65.toNat, 1536]
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_52 : BitVec 32 := 1#32
  let v66 : BitVec 32 := Scalar.muli v7 c1_i32_52
  let v67 : BitVec 32 := Scalar.addi c0_i32_53 v66
  v67.toNat
def k0_off7 (d0 : Dev nD) (c3_i32_88 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v124 : BitVec 32 := Scalar.addi v2 c3_i32_88
  let c4_i32_89 : BitVec 32 := 4#32
  let v125 : BitVec 32 := Scalar.remsi v124 c4_i32_89
  let c512_i32_90 : BitVec 32 := 512#32
  let v126 : BitVec 32 := Scalar.muli v125 c512_i32_90
  let v127 : Index := Scalar.indexCast v126
  let c0_91 : Index := 0#32
  ![v127.toNat, 0]
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_102 : BitVec 32 := 1#32
  let v139 : BitVec 32 := Scalar.muli v4 c1_i32_102
  let v140 : BitVec 32 := Scalar.addi c0_i32_103 v139
  v140.toNat
def k0_off8 (d0 : Dev nD) (c1_i32_115 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.addi v2 c1_i32_115
  let c4_i32_116 : BitVec 32 := 4#32
  let v156 : BitVec 32 := Scalar.remsi v155 c4_i32_116
  let c512_i32_117 : BitVec 32 := 512#32
  let v157 : BitVec 32 := Scalar.muli v156 c512_i32_117
  let v158 : Index := Scalar.indexCast v157
  let c1024 : Index := 1024#32
  ![v158.toNat, 1024]
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_126 : BitVec 32 := 1#32
  let v170 : BitVec 32 := Scalar.muli v7 c1_i32_126
  let v171 : BitVec 32 := Scalar.addi c0_i32_127 v170
  v171.toNat
def k0_off9 (d0 : Dev nD) (c3_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v186 : BitVec 32 := Scalar.addi v2 c3_i32_139
  let c4_i32_140 : BitVec 32 := 4#32
  let v187 : BitVec 32 := Scalar.remsi v186 c4_i32_140
  let c512_i32_141 : BitVec 32 := 512#32
  let v188 : BitVec 32 := Scalar.muli v187 c512_i32_141
  let v189 : Index := Scalar.indexCast v188
  let c512 : Index := 512#32
  ![v189.toNat, 512]
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_150 : BitVec 32 := 1#32
  let v201 : BitVec 32 := Scalar.muli v4 c1_i32_150
  let v202 : BitVec 32 := Scalar.addi c0_i32_151 v201
  v202.toNat
def k0_off10 (d0 : Dev nD) (c1_i32_163 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v217 : BitVec 32 := Scalar.addi v2 c1_i32_163
  let c4_i32_164 : BitVec 32 := 4#32
  let v218 : BitVec 32 := Scalar.remsi v217 c4_i32_164
  let c512_i32_165 : BitVec 32 := 512#32
  let v219 : BitVec 32 := Scalar.muli v218 c512_i32_165
  let v220 : Index := Scalar.indexCast v219
  let c1536 : Index := 1536#32
  ![v220.toNat, 1536]
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_174 : BitVec 32 := 1#32
  let v232 : BitVec 32 := Scalar.muli v7 c1_i32_174
  let v233 : BitVec 32 := Scalar.addi c0_i32_175 v232
  v233.toNat
def k0_dev11 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_199 : BitVec 32 := 1#32
  let v263 : BitVec 32 := Scalar.muli v4 c1_i32_199
  let v264 : BitVec 32 := Scalar.addi c0_i32_200 v263
  v264.toNat
def k0_dev12 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_224 : BitVec 32 := 1#32
  let v294 : BitVec 32 := Scalar.muli v7 c1_i32_224
  let v295 : BitVec 32 := Scalar.addi c0_i32_225 v294
  v295.toNat
def k0_dev13 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_249 : BitVec 32 := 1#32
  let v325 : BitVec 32 := Scalar.muli v4 c1_i32_249
  let v326 : BitVec 32 := Scalar.addi c0_i32_250 v325
  v326.toNat
def k0_dev14 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_274 : BitVec 32 := 1#32
  let v356 : BitVec 32 := Scalar.muli v7 c1_i32_274
  let v357 : BitVec 32 := Scalar.addi c0_i32_275 v356
  v357.toNat
def k0_dev15 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_299 : BitVec 32 := 1#32
  let v387 : BitVec 32 := Scalar.muli v4 c1_i32_299
  let v388 : BitVec 32 := Scalar.addi c0_i32_300 v387
  v388.toNat
def k0_dev16 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_323 : BitVec 32 := 1#32
  let v417 : BitVec 32 := Scalar.muli v7 c1_i32_323
  let v418 : BitVec 32 := Scalar.addi c0_i32_324 v417
  v418.toNat
def k0_dev17 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_347 : BitVec 32 := 1#32
  let v447 : BitVec 32 := Scalar.muli v4 c1_i32_347
  let v448 : BitVec 32 := Scalar.addi c0_i32_348 v447
  v448.toNat
def k0_dev18 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_371 : BitVec 32 := 1#32
  let v477 : BitVec 32 := Scalar.muli v7 c1_i32_371
  let v478 : BitVec 32 := Scalar.addi c0_i32_372 v477
  v478.toNat
def k0_dev19 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_386 : BitVec 32 := 1#32
  let v494 : BitVec 32 := Scalar.muli v4 c1_i32_386
  let v495 : BitVec 32 := Scalar.addi c0_i32_387 v494
  v495.toNat
def k0_dev20 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_401 : BitVec 32 := 1#32
  let v511 : BitVec 32 := Scalar.muli v7 c1_i32_401
  let v512 : BitVec 32 := Scalar.addi c0_i32_402 v511
  v512.toNat
def k0_dev21 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_416 : BitVec 32 := 1#32
  let v528 : BitVec 32 := Scalar.muli v4 c1_i32_416
  let v529 : BitVec 32 := Scalar.addi c0_i32_417 v528
  v529.toNat
def k0_dev22 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_431 : BitVec 32 := 1#32
  let v545 : BitVec 32 := Scalar.muli v7 c1_i32_431
  let v546 : BitVec 32 := Scalar.addi c0_i32_432 v545
  v546.toNat
def k0_dev23 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_451 : BitVec 32 := 1#32
  let v570 : BitVec 32 := Scalar.muli v4 c1_i32_451
  let v571 : BitVec 32 := Scalar.addi c0_i32_452 v570
  v571.toNat
def k0_dev24 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_466 : BitVec 32 := 1#32
  let v587 : BitVec 32 := Scalar.muli v7 c1_i32_466
  let v588 : BitVec 32 := Scalar.addi c0_i32_467 v587
  v588.toNat
def k0_dev25 (d0 : Dev nD) : Nat :=
  let c0_i32_482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_481 : BitVec 32 := 1#32
  let v604 : BitVec 32 := Scalar.muli v4 c1_i32_481
  let v605 : BitVec 32 := Scalar.addi c0_i32_482 v604
  v605.toNat
def k0_dev26 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_496 : BitVec 32 := 1#32
  let v621 : BitVec 32 := Scalar.muli v7 c1_i32_496
  let v622 : BitVec 32 := Scalar.addi c0_i32_497 v621
  v622.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
  The ring, the buffers and the contents of the all-reduce kernel.

  Four devices on a ring. The 2048 by 2048 partial product of a device is cut into 16 pieces of 512 by 512: piece
  `(k, q)` is row block `k`, column block `q`. Column blocks 0 and 1 travel towards the right neighbour, 2 and 3
  towards the left one. Every piece makes six hops: three that accumulate (a neighbour's sum lands in a slot of the
  receive buffer and the local product is added), three that spread the finished sum. Devices and row blocks are both
  numbered 0 to 3, so "the device `n` steps on" and "the row block `n` steps on" are one function, `mv`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pointwise.Index
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Steps on the ring -/

set_option backward.proofsInPublic true in
/-- `n` steps on from `c` in the direction column block `q` travels. -/
def mv (q : Fin 4) (n : ℕ) (c : Dev nD) : Dev nD := ⟨(c.val + (if q.val < 2 then n else 3 * n)) % 4, Nat.mod_lt _ (by decide)⟩

theorem mv_mv (q : Fin 4) (n k : ℕ) (c : Dev nD) : mv q n (mv q k c) = mv q (k + n) c := by
  apply Fin.ext; simp only [mv]; split <;> omega

theorem mv_add_four (q : Fin 4) (n : ℕ) (c : Dev nD) : mv q (n + 4) c = mv q n c := by
  apply Fin.ext; simp only [mv]; split <;> omega

theorem mv_zero (q : Fin 4) (c : Dev nD) : mv q 0 c = c := by
  apply Fin.ext; have : c.val < 4 := c.isLt; simp only [mv]; split <;> omega

theorem mv_four_mul (q : Fin 4) (n : ℕ) (c : Dev nD) : mv q (4 * n) c = c := by
  apply Fin.ext; have : c.val < 4 := c.isLt; simp only [mv]; split <;> omega

theorem mv_mod (q : Fin 4) {n k : ℕ} (h : n % 4 = k % 4) (c : Dev nD) : mv q n c = mv q k c := by
  apply Fin.ext; simp only [mv]; split <;> omega

set_option backward.proofsInPublic true in
/-- The step in direction `q`, undone by three more. -/
def around (q : Fin 4) : Dev nD ≃ Dev nD :=
  ⟨mv q 1, mv q 3, fun c => by rw [mv_mv]; exact mv_four_mul q 1 c, fun c => by rw [mv_mv]; exact mv_four_mul q 1 c⟩

/-! ## Buffers and their pieces -/

abbrev xM : Memref sig .tc .vmem S2048x512 .bf16 := Memref.whole cc0_stg0_0
abbrev wM : Memref sig .tc .vmem S512x2048 .bf16 := Memref.whole cc0_stg1_0
abbrev oM : Memref sig .tc .vmem S2048x2048 .f32 := Memref.whole cc0_stg2_0
abbrev aM : Memref sig .tc .vmem S2048x2048 .bf16 := Memref.whole cc0_scratch0
abbrev bM : Memref sig .tc .vmem S12x512x512 .bf16 := Memref.whole cc0_scratch1

/-- Where row block `k` starts; where piece `(k, q)` starts; where slot `n` of the receive buffer starts. -/
def rOff (k : Fin 4) : Fin 2 → ℕ := ![512 * k.val, 0]
def pOff (k q : Fin 4) : Fin 2 → ℕ := ![512 * k.val, 512 * q.val]
def sOff (n : ℕ) : Fin 3 → ℕ := ![n, 0, 0]

theorem rOff_x (k : Fin 4) : ∀ a, rOff k a + S512x512.size a ≤ S2048x512.size a := by revert k; decide
theorem rOff_a (k : Fin 4) : ∀ a, rOff k a + S512x2048.size a ≤ S2048x2048.size a := by revert k; decide
theorem pOff_a (k q : Fin 4) : ∀ a, pOff k q a + S512x512.size a ≤ S2048x2048.size a := by revert k q; decide

/-- The memref of a 512 by 512 piece of the partial product at offset `off`; of the slot at offset `off`. -/
abbrev accP (off : Fin 2 → ℕ) (h : ∀ a, off a + S512x512.size a ≤ S2048x2048.size a) : Memref sig .tc .vmem S512x512 .bf16 :=
  aM.slice (Rect.unit (s := S2048x2048) off S512x512.size h) (fun _ => rfl)
abbrev slotP (off : Fin 3 → ℕ) (h : ∀ a, off a + S1x512x512.size a ≤ S12x512x512.size a) : Memref sig .tc .vmem S512x512 .bf16 :=
  (bM.slice (Rect.unit (s := S12x512x512) off S1x512x512.size h) (fun _ => rfl)).squeeze S512x512 squeezes_S1x512x512_S512x512

set_option backward.proofsInPublic true in
/-- The row block and the column block an element of the partial product is in; the slot an element of the receive buffer is in. -/
def kOf (i : S2048x2048.Idx) : Fin 4 := ⟨(i 0).val / 512, by have : (i 0).val < 2048 := (i 0).isLt; omega⟩
set_option backward.proofsInPublic true in
def qOf (i : S2048x2048.Idx) : Fin 4 := ⟨(i 1).val / 512, by have : (i 1).val < 2048 := (i 1).isLt; omega⟩

/-- The elements of piece `(k, q)`, of row block `k`, of slot `n`. -/
def pSet (k q : Fin 4) : Finset S2048x2048.Idx := Finset.univ.filter fun i => kOf i = k ∧ qOf i = q
def rSet (k : Fin 4) : Finset S2048x2048.Idx := Finset.univ.filter fun i => kOf i = k
def sSet (n : ℕ) : Finset S12x512x512.Idx := Finset.univ.filter fun i => (i 0).val = n

theorem mem_pSet {k q : Fin 4} {i : S2048x2048.Idx} : i ∈ pSet k q ↔ kOf i = k ∧ qOf i = q := by simp [pSet]
theorem mem_rSet {k : Fin 4} {i : S2048x2048.Idx} : i ∈ rSet k ↔ kOf i = k := by simp [rSet]
theorem mem_sSet {n : ℕ} {i : S12x512x512.Idx} : i ∈ sSet n ↔ (i 0).val = n := by simp [sSet]

theorem rect_pSet (k q : Fin 4) (h) : (Rect.unit (s := S2048x2048) (pOff k q) S512x512.size h).set = pSet k q := by
  ext i
  rw [Rect.mem_set_unit, mem_pSet, Fin.forall_fin_two, Fin.ext_iff, Fin.ext_iff]
  show (512 * k.val ≤ (i 0).val ∧ (i 0).val < 512 * k.val + 512) ∧ (512 * q.val ≤ (i 1).val ∧ (i 1).val < 512 * q.val + 512)
    ↔ (i 0).val / 512 = k.val ∧ (i 1).val / 512 = q.val
  omega

theorem rect_rSet (k : Fin 4) (h) : (Rect.unit (s := S2048x2048) (rOff k) S512x2048.size h).set = rSet k := by
  ext i
  rw [Rect.mem_set_unit, mem_rSet, Fin.forall_fin_two, Fin.ext_iff]
  show (512 * k.val ≤ (i 0).val ∧ (i 0).val < 512 * k.val + 512) ∧ (0 ≤ (i 1).val ∧ (i 1).val < 0 + 2048)
    ↔ (i 0).val / 512 = k.val
  have : (i 1).val < 2048 := (i 1).isLt
  omega

theorem rect_sSet (n : ℕ) (h) : (Rect.unit (s := S12x512x512) (sOff n) S1x512x512.size h).set = sSet n := by
  ext i
  rw [Rect.mem_set_unit, mem_sSet, Fin.forall_fin_succ, Fin.forall_fin_two]
  show (n ≤ (i 0).val ∧ (i 0).val < n + 1) ∧ (0 ≤ (i 1).val ∧ (i 1).val < 0 + 512) ∧ (0 ≤ (i 2).val ∧ (i 2).val < 0 + 512)
    ↔ (i 0).val = n
  have h1 : (i 1).val < 512 := (i 1).isLt
  have h2 : (i 2).val < 512 := (i 2).isLt
  omega

theorem accP_set (k q : Fin 4) (h) : (accP (pOff k q) h).view.set = pSet k q := by
  show (View.slice (View.whole cc0_scratch0) _).set = _
  rw [View.set_slice_whole]; exact rect_pSet k q h

theorem slotP_set (n : ℕ) (h) : (slotP (sOff n) h).view.set = sSet n := by
  show ((View.slice (View.whole cc0_scratch1) _).reshape _ _).set = _
  rw [View.set_reshape, View.set_slice_whole]; exact rect_sSet n h

/-- An element of the rectangle at row block `k`, or at piece `(k, q)`, is in that row block and that column block. -/
theorem kOf_pEmb (k q : Fin 4) (h) (y : S512x512.Idx) :
    kOf ((Rect.unit (s := S2048x2048) (pOff k q) S512x512.size h).emb y) = k
      ∧ qOf ((Rect.unit (s := S2048x2048) (pOff k q) S512x512.size h).emb y) = q := by
  refine mem_pSet.mp ?_
  rw [← rect_pSet k q h]
  exact (Rect.unit (s := S2048x2048) (pOff k q) S512x512.size h).toLoadRect.idx_mem y

theorem kOf_rEmb (k : Fin 4) (h) (y : S512x2048.Idx) :
    kOf ((Rect.unit (s := S2048x2048) (rOff k) S512x2048.size h).emb y) = k := by
  refine mem_rSet.mp ?_
  rw [← rect_rSet k h]
  exact (Rect.unit (s := S2048x2048) (rOff k) S512x2048.size h).toLoadRect.idx_mem y

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The two operands of device `c` as its body finds them staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Row block `k` of device `c`'s first operand, as a load reads it. -/
def xrow (c : Dev nD) (k : Fin 4) : Vec F S512x512 .bf16 :=
  xM.view.readAt (Elt F) (Rect.unit (s := S2048x512) (rOff k) S512x512.size (rOff_x k)).toLoadRect (xstg m ρ c)

set_option backward.proofsInPublic true in
/-- An element's place within its row block. -/
def inRow (i : S2048x2048.Idx) : S512x2048.Idx :=
  ix2 (n0 := 512) (n1 := 2048) ⟨(i 0).val % 512, Nat.mod_lt _ (by decide)⟩ ⟨(i 1).val, (i 1).isLt⟩

theorem inRow_emb (k : Fin 4) (h) (y : S512x2048.Idx) :
    inRow ((Rect.unit (s := S2048x2048) (rOff k) S512x2048.size h).emb y) = y := by
  have h0 : (y 0).val < 512 := (y 0).isLt
  have e0 : (((Rect.unit (s := S2048x2048) (rOff k) S512x2048.size h).emb y) 0).val = 512 * k.val + 1 * (y 0).val := rfl
  have e1 : (((Rect.unit (s := S2048x2048) (rOff k) S512x2048.size h).emb y) 1).val = 0 + 1 * (y 1).val := rfl
  funext a
  match a with
  | ⟨0, _⟩ => apply Fin.ext; show (((Rect.unit (s := S2048x2048) (rOff k) S512x2048.size h).emb y) 0).val % 512 = (y 0).val; rw [e0]; omega
  | ⟨1, _⟩ => apply Fin.ext; show (((Rect.unit (s := S2048x2048) (rOff k) S512x2048.size h).emb y) 1).val = (y 1).val; rw [e1]; omega

/-- Device `c`'s own partial product, rounded to bf16. -/
def P (c : Dev nD) : S2048x2048.Idx → Elt F .bf16 := fun i => k0_pay1 (xrow m ρ c (kOf i)) (wstg m ρ c) (inRow i)

/-- What `n` accumulating hops have summed: an element of piece `(k, q)` starts as device `k`'s own product and takes up
    that of each device it comes to. -/
def T : ℕ → S2048x2048.Idx → Elt F .bf16
  | 0 => fun i => P m ρ (kOf i) i
  | n + 1 => addf (φ := .bf16) (s := S2048x2048) (fun i => P m ρ (mv (qOf i) (n + 1) (kOf i)) i) (T n)

/-- What the kernel returns: the full sum, widened. -/
def outAt : S2048x2048.Idx → Elt F .f32 := extf (s := S2048x2048) .f32 (T m ρ 3) bitsLt_bf16_f32

/-- Piece `(k, q)` of contents `V`. -/
def pieceOf (V : S2048x2048.Idx → Elt F .bf16) (k q : Fin 4) : S512x512.Idx → Elt F .bf16 :=
  fun y => V ((Rect.unit (s := S2048x2048) (pOff k q) S512x512.size (pOff_a k q)).emb y)

omit [FloatOps F] in
theorem read_accP (V : S2048x2048.Idx → Elt F .bf16) (k q : Fin 4) (h) : (accP (pOff k q) h).view.read (Elt F) V = pieceOf V k q := rfl

/-- An unmasked store through a rectangle leaves the stored element at each of the rectangle's places. -/
theorem write_acc_at (r : Rect S2048x2048) (f : S2048x2048.Idx → Elt F .bf16) (w : r.shape.Idx → Elt F .bf16) (y : r.shape.Idx) :
    (aM.access r).write (Elt F) f w Finset.univ (r.idx y) = w y :=
  View.write_emb_of_mem (v := aM.access r) (Val := Elt F) f w (Finset.mem_univ y)

theorem write_out_at (r : Rect S2048x2048) (f : S2048x2048.Idx → Elt F .f32) (w : r.shape.Idx → Elt F .f32) (y : r.shape.Idx) :
    (oM.access r).write (Elt F) f w Finset.univ (r.idx y) = w y :=
  View.write_emb_of_mem (v := oM.access r) (Val := Elt F) f w (Finset.mem_univ y)

/-- Storing the product of row block `k` leaves device `c`'s partial product on that row block. -/
theorem write_gemm (c : Dev nD) (k : Fin 4) (h) (f : S2048x2048.Idx → Elt F .bf16) :
    ∀ i ∈ rSet k, (aM.access (Rect.unit (s := S2048x2048) (rOff k) S512x2048.size h)).write (Elt F) f
      (k0_pay1 (xrow m ρ c k) (wstg m ρ c)) Finset.univ i = P m ρ c i := by
  intro i hi
  rw [← rect_rSet k h] at hi
  obtain ⟨y, rfl⟩ := LoadRect.exists_idx_of_mem _ hi
  rw [write_acc_at]
  unfold P
  rw [show ((Rect.unit (s := S2048x2048) (rOff k) S512x2048.size h).toLoadRect.idx y) = (Rect.unit (s := S2048x2048) (rOff k) S512x2048.size h).emb y from rfl,
    inRow_emb, kOf_rEmb]

/-- Storing the sum of the local product and a received piece leaves the next running sum on piece `(k, q)`. -/
theorem write_add (c : Dev nD) (n : ℕ) (k q : Fin 4) (hc : mv q (n + 1) k = c) (h) (f : S2048x2048.Idx → Elt F .bf16) (r : Vec F S1x512x512 .bf16)
    (hr : shapeCast S512x512 r shapeCasts_S1x512x512_S512x512 = pieceOf (T m ρ n) k q) :
    ∀ i ∈ pSet k q, (aM.access (Rect.unit (s := S2048x2048) (pOff k q) S512x512.size h)).write (Elt F) f
      (k0_pay5 (pieceOf (P m ρ c) k q) r) Finset.univ i = T m ρ (n + 1) i := by
  intro i hi
  rw [← rect_pSet k q h] at hi
  obtain ⟨y, rfl⟩ := LoadRect.exists_idx_of_mem _ hi
  rw [write_acc_at]
  unfold k0_pay5
  rw [shapeCast_self, hr]
  obtain ⟨hk, hq⟩ := kOf_pEmb k q h y
  show FloatOps.addf _ _ = FloatOps.addf _ _
  congr 1
  show P m ρ c _ = P m ρ (mv (qOf _) (n + 1) (kOf _)) _
  have hk' : kOf ((Rect.unit (s := S2048x2048) (pOff k q) S512x512.size h).toLoadRect.idx y) = k := hk
  have hq' : qOf ((Rect.unit (s := S2048x2048) (pOff k q) S512x512.size h).toLoadRect.idx y) = q := hq
  rw [hk', hq', hc]
  rfl

/-- Storing the widened row block leaves the result on it. -/
theorem write_out (k : Fin 4) (h) (f : S2048x2048.Idx → Elt F .f32) :
    ∀ i ∈ rSet k, (oM.access (Rect.unit (s := S2048x2048) (rOff k) S512x2048.size h)).write (Elt F) f
      (k0_pay17 (aM.view.readAt (Elt F) (Rect.unit (s := S2048x2048) (rOff k) S512x2048.size (rOff_a k)).toLoadRect (T m ρ 3))) Finset.univ i = outAt m ρ i := by
  intro i hi
  rw [← rect_rSet k h] at hi
  obtain ⟨y, rfl⟩ := LoadRect.exists_idx_of_mem _ hi
  rw [write_out_at]
  rfl

end Cert.AllReduce

end
-- ==== Proof.Sched.lean ====
/-
  The schedule of the all-reduce kernel: its semaphores, what each is paid with, what is still owed.

  One regular semaphore (the barrier) and 48 DMA semaphores per device take part: for each hop `h` (0 to 5) and column
  block `q` one that counts the sender's own copy out and one that counts the copy in. On hop `h` device `c` sends row
  block `mv q (3 * h) c` to its neighbour `mv q 1 c`, so what it receives on hop `h` is what it sends on hop `h + 1`.
  Hops 0 to 2 land in a slot of the receive buffer, hops 3 to 5 in the neighbour's copy of the piece. A sender must own
  that piece of its neighbour: on the accumulating hops every device hands the piece it sent along with the sum, and the
  sum carries all of them (`car`) until the spreading hops use them up.
-/
module

public import proofs.«01_k».proof.Proof.Common
import Mathlib.Tactic.IntervalCases

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The number of the DMA semaphore that counts hop `h` of column block `q` out; in. -/
def sndIx (h : ℕ) (q : Fin 4) : ℕ := if h < 3 then 3 + 4 * h + q.val else 15 + 4 * h + q.val
def rcvIx (h : ℕ) (q : Fin 4) : ℕ := if h < 3 then 15 + 4 * h + q.val else 27 + 4 * h + q.val

set_option backward.proofsInPublic true in
def sndS (h : ℕ) (q : Fin 4) : DmaSem sig := (⟨sndIx h q % 51, Nat.mod_lt _ (by decide)⟩ : Fin 51)
set_option backward.proofsInPublic true in
def rcvS (h : ℕ) (q : Fin 4) : DmaSem sig := (⟨rcvIx h q % 51, Nat.mod_lt _ (by decide)⟩ : Fin 51)
abbrev barS : Sem sig := (SemArray.scalar (sig.barrier 0 rfl) : Sems sig S_).sem

abbrev barCell (c : Dev nD) : GSem nD τ sig := ((c : Thread nD τ), .reg barS)
abbrev sndCell (c : Dev nD) (h : ℕ) (q : Fin 4) : GSem nD τ sig := ((c : Thread nD τ), .dma (sndS h q))
abbrev rcvCell (c : Dev nD) (h : ℕ) (q : Fin 4) : GSem nD τ sig := ((c : Thread nD τ), .dma (rcvS h q))

/-- What a semaphore is for. -/
inductive Use where
  | other | bar | snd (h : ℕ) (q : Fin 4) | rcv (h : ℕ) (q : Fin 4)
deriving DecidableEq

set_option backward.proofsInPublic true in
def fin4 (n : ℕ) : Fin 4 := ⟨n % 4, Nat.mod_lt _ (by decide)⟩

/-- The use of DMA semaphore `n`. -/
def useOf (n : ℕ) : Use :=
  if n < 3 then .other
  else if n < 15 then .snd ((n - 3) / 4) (fin4 (n - 3))
  else if n < 27 then .rcv ((n - 15) / 4) (fin4 (n - 15))
  else if n < 39 then .snd (3 + (n - 27) / 4) (fin4 (n - 27))
  else .rcv (3 + (n - 39) / 4) (fin4 (n - 39))

def use : SemLoc sig → Use
  | .reg _ => .bar
  | .dma n => useOf (show Fin 51 from n).val

theorem use_bar : use (.reg barS) = .bar := rfl
theorem use_snd {h : ℕ} (hh : h < 6) (q : Fin 4) : use (.dma (sndS h q)) = .snd h q := by
  interval_cases h <;> revert q <;> decide
theorem use_rcv {h : ℕ} (hh : h < 6) (q : Fin 4) : use (.dma (rcvS h q)) = .rcv h q := by
  interval_cases h <;> revert q <;> decide

/-! ## Resources -/

/-- Device `c`'s piece `(k, q)` at contents `V`; its row block `k`; its row block `k` of the result. -/
def acc (c : Dev nD) (k q : Fin 4) (sh : PosShare TreeShare) (V : S2048x2048.Idx → Elt F .bf16) : sProp 𝕄 :=
  ((c : Thread nD τ).loc cc0_scratch0) ↦[pSet k q]{sh} (V : Buf (Elt F) ((c : Thread nD τ).loc cc0_scratch0))
def accRow (c : Dev nD) (k : Fin 4) (sh : PosShare TreeShare) (V : S2048x2048.Idx → Elt F .bf16) : sProp 𝕄 :=
  ((c : Thread nD τ).loc cc0_scratch0) ↦[rSet k]{sh} (V : Buf (Elt F) ((c : Thread nD τ).loc cc0_scratch0))
def outRow (c : Dev nD) (k : Fin 4) (V : S2048x2048.Idx → Elt F .f32) : sProp 𝕄 :=
  ((c : Thread nD τ).loc cc0_stg2_0) ↦[rSet k]{fullShare} (V : Buf (Elt F) ((c : Thread nD τ).loc cc0_stg2_0))

/-- Slot `n` of device `c`'s receive buffer, at contents `f` of the buffer. -/
def slot (c : Dev nD) (n : ℕ) (f : S12x512x512.Idx → Elt F .bf16) : sProp 𝕄 :=
  ((c : Thread nD τ).loc cc0_scratch1) ↦[sSet n]{fullShare} (f : Buf (Elt F) ((c : Thread nD τ).loc cc0_scratch1))
def slotAny (c : Dev nD) (n : ℕ) : sProp 𝕄 := iprop(∃ f, slot (F := F) c n f)
/-- Slot `n` read through any memref of it is `X`. -/
def slotHas (c : Dev nD) (n : ℕ) (X : S512x512.Idx → Elt F .bf16) : sProp 𝕄 :=
  iprop(∃ f, ⌜∀ h, (slotP (sOff n) h).view.read (Elt F) f = X⌝ ∗ slot c n f)

/-- The row block of column block `q` that device `c` sends on hop `h`. -/
def blk (q : Fin 4) (h : ℕ) (c : Dev nD) : Dev nD := mv q (3 * h) c

theorem blk_next (q : Fin 4) (h : ℕ) (c : Dev nD) : blk q (h + 1) (mv q 1 c) = blk q h c := by
  unfold blk; rw [mv_mv, show 1 + 3 * (h + 1) = 3 * h + 4 by omega, mv_add_four]

theorem blk_zero (q : Fin 4) (c : Dev nD) : blk q 0 c = c := mv_zero q c

/-- The devices of the list `l`, counted backwards from `c`, each give their piece `(k, q)`, at whatever it holds. -/
def car (c : Dev nD) (k q : Fin 4) : List ℕ → sProp 𝕄
  | [] => iprop(emp)
  | j :: l => iprop((∃ V, acc (F := F) (blk q j c) k q fullShare V) ∗ car c k q l)

/-- Which devices' pieces a sum carries as it is sent on hop `h`. -/
def carry : ℕ → List ℕ
  | 0 => [] | 1 => [1] | 2 => [1, 2] | 3 => [3, 1, 2] | 4 => [3, 2] | 5 => [3] | _ => []

omit [FloatOps F] in
theorem car_next (c : Dev nD) (k q : Fin 4) (l : List ℕ) : car (F := F) (mv q 1 c) k q (l.map (· + 1)) = car c k q l := by
  induction l with
  | nil => rfl
  | cons j l ih =>
    show iprop((∃ V, acc (F := F) (blk q (j + 1) (mv q 1 c)) k q fullShare V) ∗ car (mv q 1 c) k q (l.map (· + 1))) = _
    rw [ih, blk_next]; rfl

omit [FloatOps F] in
/-- An accumulating hop: the sender's piece joins those the sum carries. -/
theorem car_add {h : ℕ} (hh : h < 3) (c : Dev nD) (k q : Fin 4) (V : S2048x2048.Idx → Elt F .bf16) :
    iprop(acc c k q fullShare V ∗ car (F := F) c k q (carry h)) ⊢ car (mv q 1 c) k q (carry (h + 1)) := by
  have key : iprop(acc c k q fullShare V ∗ car (F := F) c k q (carry h)) ⊢ car (mv q 1 c) k q ((0 :: carry h).map (· + 1)) := by
    rw [car_next]
    show _ ⊢ iprop((∃ V, acc (F := F) (blk q 0 c) k q fullShare V) ∗ car c k q (carry h))
    rw [blk_zero]
    iintro ⟨H, H'⟩
    isplitl [H]; · iexists V; iexact H
    iexact H'
  interval_cases h
  · exact key
  · exact key
  · refine key.trans ?_
    show iprop((∃ V, acc (F := F) (blk q 1 (mv q 1 c)) k q fullShare V) ∗ (∃ V, acc (F := F) (blk q 2 (mv q 1 c)) k q fullShare V)
        ∗ (∃ V, acc (F := F) (blk q 3 (mv q 1 c)) k q fullShare V) ∗ emp)
      ⊢ iprop((∃ V, acc (F := F) (blk q 3 (mv q 1 c)) k q fullShare V) ∗ (∃ V, acc (F := F) (blk q 1 (mv q 1 c)) k q fullShare V)
        ∗ (∃ V, acc (F := F) (blk q 2 (mv q 1 c)) k q fullShare V) ∗ emp)
    iintro ⟨H1, H2, H3, -⟩
    isplitl [H3]; · iexact H3
    isplitl [H1]; · iexact H1
    isplitl [H2]; · iexact H2
    iempintro

omit [FloatOps F] in
/-- A spreading hop: the neighbour's piece, the destination, comes off what the sum carries. -/
theorem car_take {h : ℕ} (hh : 3 ≤ h) (hh' : h < 6) (c : Dev nD) (k q : Fin 4) :
    car (F := F) c k q (carry h) ⊢ iprop((∃ V, acc (F := F) (mv q 1 c) k q fullShare V) ∗ car (mv q 1 c) k q (carry (h + 1))) := by
  have e : blk q 3 c = mv q 1 c := mv_mod q (by decide) c
  have key : ∀ l, car (F := F) c k q (3 :: l) ⊢ iprop((∃ V, acc (F := F) (mv q 1 c) k q fullShare V) ∗ car (mv q 1 c) k q (l.map (· + 1))) := by
    intro l
    rw [car_next, ← e]; exact .rfl
  interval_cases h
  · refine (key [1, 2]).trans (sep_mono_right ?_)
    show iprop((∃ V, acc (F := F) (blk q 2 (mv q 1 c)) k q fullShare V) ∗ (∃ V, acc (F := F) (blk q 3 (mv q 1 c)) k q fullShare V) ∗ emp)
      ⊢ iprop((∃ V, acc (F := F) (blk q 3 (mv q 1 c)) k q fullShare V) ∗ (∃ V, acc (F := F) (blk q 2 (mv q 1 c)) k q fullShare V) ∗ emp)
    iintro ⟨H1, H2, -⟩
    isplitl [H2]; · iexact H2
    isplitl [H1]; · iexact H1
    iempintro
  · exact key [2]
  · exact key []

omit [FloatOps F] in
instance acc_storable (c : Dev nD) (k q sh) (V) : BI.Storable (upEmb : UEmb _ 𝕄) (acc (F := F) c k q sh V) := by unfold acc; infer_instance
omit [FloatOps F] in
instance slotAny_storable (c : Dev nD) (n : ℕ) : BI.Storable (upEmb : UEmb _ 𝕄) (slotAny (F := F) c n) := by unfold slotAny slot; infer_instance
omit [FloatOps F] in
instance slotHas_storable (c : Dev nD) (n : ℕ) (X) : BI.Storable (upEmb : UEmb _ 𝕄) (slotHas (F := F) c n X) := by unfold slotHas slot; infer_instance
omit [FloatOps F] in
instance car_storable (c : Dev nD) (k q) (l : List ℕ) : BI.Storable (upEmb : UEmb _ 𝕄) (car (F := F) c k q l) := by
  induction l with
  | nil => show BI.Storable upEmb iprop(emp); infer_instance
  | cons j l ih => show BI.Storable upEmb iprop((∃ V, acc (F := F) (blk q j c) k q fullShare V) ∗ car c k q l); infer_instance

/-! ## The schedule -/

/-- The three slots of column block `q` on device `c`. -/
def slots (c : Dev nD) (q : Fin 4) : sProp 𝕄 := iprop(slotAny (F := F) c (4 * 0 + q.val) ∗ slotAny c (4 * 1 + q.val) ∗ slotAny c (4 * 2 + q.val))

/-- What a neighbour's signal hands device `c`: the right neighbour's (`true`) its slots of the blocks travelling right,
    the left neighbour's those of the blocks travelling left. -/
def barPay (c : Dev nD) (d : Bool) : sProp 𝕄 :=
  if d then iprop(slots (F := F) (mv 0 1 c) 0 ∗ slots (mv 1 1 c) 1) else iprop(slots (F := F) (mv 2 1 c) 2 ∗ slots (mv 3 1 c) 3)

/-- What comes back to the sender: on the spreading hops the half of the piece that was read. -/
def sndPay (c : Dev nD) (h : ℕ) (q : Fin 4) : sProp 𝕄 :=
  if h < 3 then iprop(emp) else acc c (blk q h c) q fullShare.left (T m ρ 3)

/-- What a landing of hop `h` hands device `c`, and what the sum carries. -/
def land (c : Dev nD) (h : ℕ) (q : Fin 4) : sProp 𝕄 :=
  if h < 3 then slotHas c (4 * h + q.val) (pieceOf (T m ρ h) (blk q (h + 1) c) q) else acc c (blk q (h + 1) c) q fullShare (T m ρ 3)
def rcvPay (c : Dev nD) (h : ℕ) (q : Fin 4) : sProp 𝕄 := iprop(land m ρ c h q ∗ car (F := F) c (blk q (h + 1) c) q (carry (h + 1)))

omit [FloatOps F] in
instance slots_storable (c : Dev nD) (q) : BI.Storable (upEmb : UEmb _ 𝕄) (slots (F := F) c q) := by unfold slots; infer_instance
omit [FloatOps F] in
instance barPay_storable (c : Dev nD) (d) : BI.Storable (upEmb : UEmb _ 𝕄) (barPay (F := F) c d) := by unfold barPay; split <;> infer_instance
instance sndPay_storable (c : Dev nD) (h q) : BI.Storable (upEmb : UEmb _ 𝕄) (sndPay (F := F) m ρ c h q) := by unfold sndPay; split <;> infer_instance
instance land_storable (c : Dev nD) (h q) : BI.Storable (upEmb : UEmb _ 𝕄) (land (F := F) m ρ c h q) := by unfold land; split <;> infer_instance
instance rcvPay_storable (c : Dev nD) (h q) : BI.Storable (upEmb : UEmb _ 𝕄) (rcvPay (F := F) m ρ c h q) := by unfold rcvPay; infer_instance

/-- The credit of one 512 by 512 piece. -/
@[irreducible] def N : ℕ := (accP (pOff 0 0) (pOff_a 0 0)).view.dmaCredit
theorem N_pos : 0 < N := by unfold N; exact View.dmaCredit_pos _ (by decide)
theorem N_acc (off h) : (accP off h).view.dmaCredit = N := by unfold N; rfl
theorem N_slot (off h) : (slotP off h).view.dmaCredit = N := by unfold N; rfl

/-- One round: a barrier cell is paid one unit by each neighbour, a DMA cell one piece's credit by one copy. -/
def Rd : Rounds.Schedule (GSem nD τ sig) Bool 𝕄 where
  duties g r := if r = 0 ∧ g.1.2 = .tc then (match use g.2 with | .other => ∅ | .bar => Finset.univ | .snd _ _ => {false} | .rcv _ _ => {false}) else ∅
  unitless _ := False
  amount g _ _ := if use g.2 = .bar then 1 else N
  payload g _ d := match use g.2 with
    | .other => iprop(emp) | .bar => barPay g.1.1 d | .snd h q => sndPay m ρ g.1.1 h q | .rcv h q => rcvPay m ρ g.1.1 h q
  amount_pos g _ _ _ := by
    by_cases h : use g.2 = .bar
    · rw [if_pos h]; exact Nat.one_pos
    · rw [if_neg h]; exact N_pos

instance Rd_payload_storable (g : GSem nD τ sig) (r : ℕ) (d : Bool) :
    BI.Storable (upEmb : UEmb _ 𝕄) ((Rd (F := F) m ρ).payload g r d) := by
  show BI.Storable upEmb (match use g.2 with
    | .other => iprop(emp) | .bar => barPay g.1.1 d | .snd h q => sndPay m ρ g.1.1 h q | .rcv h q => rcvPay m ρ g.1.1 h q)
  split <;> infer_instance

section Facts
variable (c : Dev nD) {h : ℕ} (hh : h < 6) (q : Fin 4)

theorem duties_bar : (Rd (F := F) m ρ).duties (barCell c) 0 = Finset.univ := rfl
include hh in
theorem duties_snd : (Rd (F := F) m ρ).duties (sndCell c h q) 0 = {false} := by
  dsimp only [Rd]; rw [if_pos ⟨rfl, rfl⟩, use_snd hh q]
include hh in
theorem duties_rcv : (Rd (F := F) m ρ).duties (rcvCell c h q) 0 = {false} := by
  dsimp only [Rd]; rw [if_pos ⟨rfl, rfl⟩, use_rcv hh q]
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barCell c) 0 d = 1 := rfl
include hh in
theorem amount_snd (d : Bool) : (Rd (F := F) m ρ).amount (sndCell c h q) 0 d = N := by
  dsimp only [Rd]; rw [use_snd hh q]; exact if_neg (fun h => by cases h)
include hh in
theorem amount_rcv (d : Bool) : (Rd (F := F) m ρ).amount (rcvCell c h q) 0 d = N := by
  dsimp only [Rd]; rw [use_rcv hh q]; exact if_neg (fun h => by cases h)

theorem payload_bar (d : Bool) : (Rd (F := F) m ρ).payload (barCell c) 0 d = barPay c d := rfl
include hh in
theorem payload_snd (d : Bool) : (Rd (F := F) m ρ).payload (sndCell c h q) 0 d = sndPay m ρ c h q := by
  dsimp only [Rd]; rw [use_snd hh q]
include hh in
theorem payload_rcv (d : Bool) : (Rd (F := F) m ρ).payload (rcvCell c h q) 0 d = rcvPay m ρ c h q := by
  dsimp only [Rd]; rw [use_rcv hh q]

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
include hh in
theorem expect_snd : (Rd (F := F) m ρ).expect (sndCell c h q) 0 = N := by
  unfold Schedule.expect Schedule.amountOf; rw [duties_snd m ρ c hh q, Finset.sum_singleton, amount_snd m ρ c hh q]
include hh in
theorem expect_rcv : (Rd (F := F) m ρ).expect (rcvCell c h q) 0 = N := by
  unfold Schedule.expect Schedule.amountOf; rw [duties_rcv m ρ c hh q, Finset.sum_singleton, amount_rcv m ρ c hh q]

/-- All that the round of a cell pays out. -/
theorem rest_bar : bigSep ((Rd (F := F) m ρ).duties (barCell c) 0 \ ∅) (fun d => (Rd (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
include hh in
theorem rest_snd : bigSep ((Rd (F := F) m ρ).duties (sndCell c h q) 0 \ ∅) (fun d => (Rd (F := F) m ρ).payload (sndCell c h q) 0 d)
    = sndPay m ρ c h q := by
  rw [Finset.sdiff_empty, duties_snd m ρ c hh q, bigSep_singleton, payload_snd m ρ c hh q]
include hh in
theorem rest_rcv : bigSep ((Rd (F := F) m ρ).duties (rcvCell c h q) 0 \ ∅) (fun d => (Rd (F := F) m ρ).payload (rcvCell c h q) 0 d)
    = rcvPay m ρ c h q := by
  rw [Finset.sdiff_empty, duties_rcv m ρ c hh q, bigSep_singleton, payload_rcv m ρ c hh q]

end Facts

/-! ## What a device owes; the levels -/

/-- The credit owed for the sends of the list `l`. -/
def oweL (c : Dev nD) : List (ℕ × Fin 4) → CellTallies nD τ sig Unit
  | [] => 0
  | p :: l => oweL c l + tallyAt (rcvCell (mv p.2 1 c) p.1 p.2) () N

/-- All sends of a device, in program order. -/
def sends : List (ℕ × Fin 4) :=
  [(0,0),(0,1),(0,2),(0,3),(1,0),(1,2),(1,1),(1,3),(2,0),(2,2),(2,1),(2,3),(3,0),(3,2),(3,1),(3,3),
   (4,0),(4,2),(4,1),(4,3),(5,0),(5,2),(5,1),(5,3)]

/-- After the first signal, to the left neighbour; at launch. -/
def O₁ (c : Dev nD) : CellTallies nD τ sig Unit := oweL c sends + tallyAt (barCell (mv 0 1 c)) () 1
def O₀ (c : Dev nD) : CellTallies nD τ sig Unit := O₁ c + tallyAt (barCell (mv 2 1 c)) () 1

def L (g : GSem nD τ sig) : Finset Unit := if g.1.2 = .tc then {()} else ∅
/-- The level of a use: staging and outgoing copies lowest, then the barrier, then the hops in order. -/
def lvU : Use → ℕ
  | .other => 0 | .bar => 1 | .snd _ _ => 0 | .rcv h _ => 2 + h
def lv (g : GSem nD τ sig) (_ : Unit) : ℕ := lvU (use g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {O : CellTallies nD τ sig Unit} {g g' : GSem nD τ sig} {k : ℕ} {u : Unit} (h : 0 < (O + tallyAt g' () k) g u) :
    g = g' ∨ 0 < O g u := by
  rw [Pi.add_apply, Finsupp.add_apply, tallyAt_apply] at h
  by_cases hp : g = g'
  · exact .inl hp
  · rw [if_neg (fun h' => hp h'.1), Nat.add_zero] at h
    exact .inr h

theorem oweL_pos {c : Dev nD} {l : List (ℕ × Fin 4)} {g : GSem nD τ sig} {u : Unit} (h : 0 < oweL c l g u) :
    ∃ p ∈ l, g = rcvCell (mv p.2 1 c) p.1 p.2 := by
  induction l with
  | nil => exact absurd h (Nat.lt_irrefl 0)
  | cons p l ih =>
    rcases tally_pos h with hp | h
    · exact ⟨p, List.mem_cons_self, hp⟩
    · obtain ⟨p', hm, he⟩ := ih h
      exact ⟨p', List.mem_cons_of_mem _ hm, he⟩

omit [FloatOps F] in
/-- A device may wait on a cell below every hop it has yet to send. -/
theorem mayWait (c : Dev nD) (sm : SemLoc sig) (l : List (ℕ × Fin 4)) (hl : ∀ p ∈ l, p.1 < 6 ∧ lvU (use sm) < 2 + p.1) :
    (levAts L lv : sProp 𝕄) ⊢ MayWait (c : Thread nD τ) sm () (oweL c l) :=
  MayOwe.of_cut (L := L) (lev := lv) (lvU (use sm))
    (fun p hp => by rw [Finset.mem_singleton.mp hp, L_tc]; exact Finset.mem_singleton_self _)
    (fun g u hg => by obtain ⟨p, _, rfl⟩ := oweL_pos hg; rw [L_tc]; exact Finset.mem_singleton_self _)
    (fun p hp => by rw [Finset.mem_singleton.mp hp]; exact le_rfl)
    (fun g u hg => by
      obtain ⟨p, hp, rfl⟩ := oweL_pos hg
      show _ < lvU (use (.dma (rcvS p.1 p.2)))
      rw [use_rcv (hl p hp).1]; exact (hl p hp).2)

theorem O₀_pos {c : Dev nD} {g : GSem nD τ sig} {u : Unit} (h : 0 < O₀ c g u) :
    (∃ p ∈ sends, g = rcvCell (mv p.2 1 c) p.1 p.2) ∨ ∃ d, g = barCell d := by
  rcases tally_pos (O := O₁ c) h with hg | h
  · exact .inr ⟨_, hg⟩
  rcases tally_pos (O := oweL c sends) h with hg | h
  · exact .inr ⟨_, hg⟩
  exact .inl (oweL_pos h)

theorem sends_lt : ∀ p ∈ sends, p.1 < 6 := by decide

omit [FloatOps F] in
/-- Before the body and after it a device may wait on its staging semaphores. -/
theorem mayWait_stage (c : Dev nD) (sm : SemLoc sig) (hs : lvU (use sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, _, rfl⟩ | ⟨d, rfl⟩ <;> (rw [L_tc]; exact Finset.mem_singleton_self _))
      (fun p hp => by rw [Finset.mem_singleton.mp hp]; exact hs.le)
      (fun g u hg => by
        rcases O₀_pos hg with ⟨p, hp, rfl⟩ | ⟨d, rfl⟩
        · show 0 < lvU (use (.dma (rcvS p.1 p.2)))
          rw [use_rcv (sends_lt p hp)]; exact Nat.lt_of_lt_of_le Nat.two_pos (Nat.le_add_right 2 p.1)
        · exact Nat.one_pos)
  · rw [MayWait_zero]; iintro -; iempintro

/-! ## The cells' invariants -/

set_option backward.proofsInPublic true in
/-- The semaphores that take part: the barrier, and the DMA semaphores from number 3 on. -/
def csem (i : Fin 49) : SemLoc sig :=
  if i.val = 0 then .reg barS else .dma ((⟨(i.val + 2) % 51, Nat.mod_lt _ (by decide)⟩ : Fin 51) : DmaSem sig)
abbrev kcell (ck : Dev nD × Fin 49) : GSem nD τ sig := ((ck.1 : Thread nD τ), csem ck.2)

set_option backward.proofsInPublic true in
def ixSnd (h : ℕ) (q : Fin 4) : Fin 49 := ⟨(sndIx h q - 2) % 49, Nat.mod_lt _ (by decide)⟩
set_option backward.proofsInPublic true in
def ixRcv (h : ℕ) (q : Fin 4) : Fin 49 := ⟨(rcvIx h q - 2) % 49, Nat.mod_lt _ (by decide)⟩

theorem csem_bar : csem 0 = .reg barS := rfl
theorem csem_snd {h : ℕ} (hh : h < 6) (q : Fin 4) : csem (ixSnd h q) = .dma (sndS h q) := by
  interval_cases h <;> revert q <;> decide
theorem csem_rcv {h : ℕ} (hh : h < 6) (q : Fin 4) : csem (ixRcv h q) = .dma (rcvS h q) := by
  interval_cases h <;> revert q <;> decide

/-- Every cell's invariant, under some name, that it has reached round 0, and the level facts. -/
def recs : sProp 𝕄 :=
  iprop(bigSep Finset.univ (fun ck : Dev nD × Fin 49 => iprop((∃ κ, cellInv ER (Rd m ρ) κ (kcell ck)) ∗ reached ER (kcell ck) 0)) ∗ levAts L lv)

instance recs_persistent : BI.Persistent (recs (F := F) m ρ) := by unfold recs; infer_instance

theorem recs_levs : recs (F := F) m ρ ⊢ levAts L lv := by unfold recs; iintro ⟨-, H⟩; iexact H

theorem recs_cell (ck : Dev nD × Fin 49) :
    recs (F := F) m ρ ⊢ iprop((∃ κ, cellInv ER (Rd m ρ) κ (kcell ck)) ∗ reached ER (kcell ck) 0) := by
  unfold recs
  refine (show _ ⊢ _ from ?_).trans (BI.bigSep_elim (Φ := fun ck : Dev nD × Fin 49 => iprop((∃ κ, cellInv ER (Rd m ρ) κ (kcell ck)) ∗ reached ER (kcell ck) 0)) (Finset.mem_univ ck))
  iintro ⟨H, -⟩
  iexact H

theorem recs_bar (c : Dev nD) :
    recs (F := F) m ρ ⊢ iprop((∃ κ, cellInv ER (Rd m ρ) κ (barCell c)) ∗ reached ER (barCell c) 0) := recs_cell m ρ (c, 0)
theorem recs_snd (c : Dev nD) {h : ℕ} (hh : h < 6) (q : Fin 4) :
    recs (F := F) m ρ ⊢ iprop((∃ κ, cellInv ER (Rd m ρ) κ (sndCell c h q)) ∗ reached ER (sndCell c h q) 0) := by
  have := recs_cell m ρ (c, ixSnd h q)
  unfold kcell at this
  dsimp only at this
  rwa [csem_snd hh q] at this
theorem recs_rcv (c : Dev nD) {h : ℕ} (hh : h < 6) (q : Fin 4) :
    recs (F := F) m ρ ⊢ iprop((∃ κ, cellInv ER (Rd m ρ) κ (rcvCell c h q)) ∗ reached ER (rcvCell c h q) 0) := by
  have := recs_cell m ρ (c, ixRcv h q)
  unfold kcell at this
  dsimp only at this
  rwa [csem_rcv hh q] at this

end Cert.AllReduce

end
-- ==== Proof.Steps.lean ====
/-
  One rule per kind of step of the all-reduce kernel: a send, a wait for a copy in, a wait for a copy out, a row block's
  product, an addition, a row block's result — each stated for every hop and column block at once.
-/
module

public import proofs.«01_k».proof.Proof.Sched

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's program, run to `Q`. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on so far. -/
def debt (c : Dev nD) (O : CellTallies nD τ sig Unit) : sProp 𝕄 := iprop(∃ W, owes (c : Thread nD τ) O W)

/-! ## Accesses -/

omit [FloatOps F] in
/-- A piece at the full share is its two halves. -/
theorem acc_halves (c : Dev nD) (k q : Fin 4) (V : S2048x2048.Idx → Elt F .bf16) :
    acc c k q fullShare V = iprop(acc c k q fullShare.left V ∗ acc c k q fullShare.right V) := by
  unfold acc
  have e := pointsTo_share (sig := sig) (Ix := Unit) (Val := Elt F) (Name := ℕ) (U := UU) (Lvl := ℕ) (ℓ := (c : Thread nD τ).loc cc0_scratch0) (I := pSet k q)
    (f := (V : Buf (Elt F) ((c : Thread nD τ).loc cc0_scratch0))) (PosShare.mem_left_op_right fullShare)
  exact BI.equiv_iff.mp ⟨e.1, e.2⟩

theorem setOn_a (r : Rect S2048x2048) : (aM.access r).setOn Finset.univ = r.set := by
  rw [View.setOn_univ]; exact View.set_slice_whole _ _
theorem setOn_o (r : Rect S2048x2048) : (oM.access r).setOn Finset.univ = r.set := by
  rw [View.setOn_univ]; exact View.set_slice_whole _ _
theorem set_a (r : Rect S2048x2048) : (aM.access r).set = r.set := View.set_slice_whole _ _
theorem set_o (r : Rect S2048x2048) : (oM.access r).set = r.set := View.set_slice_whole _ _
theorem set_b (r : Rect S12x512x512) : (bM.access r).set = r.set := View.set_slice_whole _ _

omit [FloatOps F] in
/-- Contents that agree on a piece make the same piece. -/
theorem acc_congr (c : Dev nD) (k q : Fin 4) (sh) {V V' : S2048x2048.Idx → Elt F .bf16} (h : ∀ i ∈ pSet k q, V i = V' i) :
    acc c k q sh V = acc c k q sh V' := by unfold acc; exact pointsTo_congr h
omit [FloatOps F] in
theorem accRow_congr (c : Dev nD) (k : Fin 4) (sh) {V V' : S2048x2048.Idx → Elt F .bf16} (h : ∀ i ∈ rSet k, V i = V' i) :
    accRow c k sh V = accRow c k sh V' := by unfold accRow; exact pointsTo_congr h
omit [FloatOps F] in
theorem outRow_congr (c : Dev nD) (k : Fin 4) {V V' : S2048x2048.Idx → Elt F .f32} (h : ∀ i ∈ rSet k, V i = V' i) :
    outRow c k V = outRow c k V' := by unfold outRow; exact pointsTo_congr h

omit [FloatOps F] in
/-- A copy of piece `(k, q)` onto the same piece leaves the copied contents there. -/
theorem copy_acc (k q : Fin 4) (h h' : ∀ a, pOff k q a + S512x512.size a ≤ S2048x2048.size a) (f V : S2048x2048.Idx → Elt F .bf16) :
    ∀ i ∈ pSet k q, (accP (pOff k q) h).view.write (Elt F) f ((accP (pOff k q) h').view.read (Elt F) V) Finset.univ i = V i := by
  intro i hi
  rw [← rect_pSet k q h] at hi
  obtain ⟨y, rfl⟩ := LoadRect.exists_idx_of_mem _ hi
  exact View.write_emb_of_mem (v := (accP (pOff k q) h).view) (Val := Elt F) f _ (Finset.mem_univ y)

omit [FloatOps F] in
/-- A piece and a slot, as the memref that names them sees them. -/
theorem acc_view (c : Dev nD) (k q : Fin 4) (sh : PosShare TreeShare) (h) (V : Buf (Elt F) ((accP (pOff k q) h).view.loc (c : Thread nD τ))) :
    acc c k q sh V = ((accP (pOff k q) h).view.loc (c : Thread nD τ) ↦[(accP (pOff k q) h).view.set]{sh} V : sProp 𝕄) := by
  rw [accP_set]; rfl
omit [FloatOps F] in
theorem slot_view (c : Dev nD) (n : ℕ) (h) (f : Buf (Elt F) ((slotP (sOff n) h).view.loc (c : Thread nD τ))) :
    slot c n f = ((slotP (sOff n) h).view.loc (c : Thread nD τ) ↦[(slotP (sOff n) h).view.set]{fullShare} f : sProp 𝕄) := by
  rw [slotP_set]; rfl

/-! ## Sends -/

section Send

variable (c n : Dev nD) {h : ℕ} {q : Fin 4} {l : List (ℕ × Fin 4)} {sS sem : SemLoc sig} {offs : Fin 2 → ℕ}

/-- What a sender holds for hop `h` of column block `q` besides the piece: its own and its neighbour's payment rights, and
    its position at the cell that counts the copy out. -/
def sd₀ (c : Dev nD) (q : Fin 4) (h : ℕ) : sProp 𝕄 :=
  iprop(dutyTok ER (sndCell c h q) 0 false ∗ dutyTok ER (rcvCell (mv q 1 c) h q) 0 false ∗ atPos ER (sndCell c h q) 0 ∅ 0)
/-- The same with the neighbour's slot the hop lands in, if it lands in one. -/
def sd (c : Dev nD) (q : Fin 4) (h : ℕ) : sProp 𝕄 :=
  iprop(sd₀ (F := F) c q h ∗ if h < 3 then slotAny (F := F) (mv q 1 c) (4 * h + q.val) else iprop(emp))
/-- A send done, its copy out not yet waited for. -/
def dS (c : Dev nD) (q : Fin 4) (h : ℕ) : sProp 𝕄 :=
  iprop(cred (tallyAt (sndCell c h q) () N) ∗ atPos ER (sndCell c h q) 0 ∅ 0)
/-- The piece ready to be sent on hop `h`, and the pieces its sum carries. -/
def cur (c : Dev nD) (q : Fin 4) (h : ℕ) : sProp 𝕄 :=
  iprop(acc c (blk q h c) q fullShare (T m ρ (min h 3)) ∗ car (F := F) c (blk q h c) q (carry h))

/-- What lands in the neighbour's slot, with what the sum carried and the piece that was sent, is the neighbour's payload. -/
theorem pay_slot (hh : h < 3) (hs : ∀ a, pOff (blk q h c) q a + S512x512.size a ≤ S2048x2048.size a)
    (hd : ∀ a, sOff (4 * h + q.val) a + S1x512x512.size a ≤ S12x512x512.size a) (fd : S12x512x512.Idx → Elt F .bf16) :
    iprop((slot (mv q 1 c) (4 * h + q.val)
          ((slotP (sOff (4 * h + q.val)) hd).view.write (Elt F) fd ((accP (pOff (blk q h c) q) hs).view.read (Elt F) (T m ρ (min h 3))) Finset.univ)
        ∗ car (F := F) c (blk q h c) q (carry h))
        ∗ acc c (blk q h c) q fullShare (T m ρ (min h 3)))
      ⊢ (Rd m ρ).payload (rcvCell (mv q 1 c) h q) 0 false := by
  have h6 : h < 6 := by omega
  rw [payload_rcv m ρ _ h6 q]; unfold rcvPay land; rw [if_pos hh, blk_next]
  have hX : ∀ h', (slotP (sOff (4 * h + q.val)) h').view.read (Elt F) ((slotP (sOff (4 * h + q.val)) hd).view.write (Elt F) fd
      ((accP (pOff (blk q h c) q) hs).view.read (Elt F) (T m ρ (min h 3))) Finset.univ) = pieceOf (T m ρ h) (blk q h c) q := by
    intro h'
    refine (View.read_write_univ (v := (slotP (sOff (4 * h + q.val)) hd).view) (Val := Elt F) fd _).trans ?_
    rw [Nat.min_eq_left hh.le]; rfl
  unfold slotHas
  iintro ⟨⟨Hd, Hc⟩, Hs⟩
  isplitl [Hd]
  · iexists _
    isplitr
    · ipureintro; exact hX
    · iexact Hd
  · iapply (car_add hh c (blk q h c) q (T m ρ (min h 3)))
    isplitl [Hs]
    · iexact Hs
    · iexact Hc

/-- What lands on the neighbour's piece, with what the sum still carries, is the neighbour's payload. -/
theorem pay_piece (hh : 3 ≤ h) (h6 : h < 6) (hs hd : ∀ a, pOff (blk q h c) q a + S512x512.size a ≤ S2048x2048.size a)
    (fd : S2048x2048.Idx → Elt F .bf16) :
    iprop(acc (mv q 1 c) (blk q h c) q fullShare
          ((accP (pOff (blk q h c) q) hd).view.write (Elt F) fd ((accP (pOff (blk q h c) q) hs).view.read (Elt F) (T m ρ 3)) Finset.univ)
        ∗ car (F := F) (mv q 1 c) (blk q h c) q (carry (h + 1)))
      ⊢ (Rd m ρ).payload (rcvCell (mv q 1 c) h q) 0 false := by
  have h3 : ¬ h < 3 := by omega
  rw [payload_rcv m ρ _ h6 q]; unfold rcvPay land; rw [if_neg h3, blk_next]
  rw [acc_congr (mv q 1 c) (blk q h c) q fullShare (copy_acc (blk q h c) q hd hs fd (T m ρ 3))]

/-- A copy whose source comes back with the landing, between two memrefs and two cells. -/
theorem gen_slot (n : Dev nD) (src dst : Memref sig .tc .vmem S512x512 .bf16) (sS sem : SemLoc sig)
    {hsc : (dst : Memref sig (Dev.tc n : Thread nD τ).2.kind .vmem S512x512 .bf16).view.ref.isScScratch = false}
    {hsrc : src.view.WordExact} {hdst : dst.view.WordExact}
    {hsem : DmaTarget.Typed .vmem sem (.remote (Dev.tc n : Thread nD τ) (dst : Memref sig (Dev.tc n : Thread nD τ).2.kind .vmem S512x512 .bf16) sS hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (n : Thread nD τ))) (G : sProp 𝕄) (κ₁ κ₂ : ℕ) (W : Waits sig Unit)
    (hd₁ : false ∈ (Rd m ρ).duties ((c : Thread nD τ), sS) 0) (hd₂ : false ∈ (Rd m ρ).duties ((n : Thread nD τ), sem) 0)
    (hN : dst.view.amount sem = N) (hk₁ : (Rd m ρ).amount ((c : Thread nD τ), sS) 0 false = N) (hk₂ : (Rd m ρ).amount ((n : Thread nD τ), sem) 0 false = N)
    (O₀ O : CellTallies nD τ sig Unit) (hO : O₀ = O + tallyAt ((n : Thread nD τ), sem) () N)
    (hp₁ : (emp : sProp 𝕄) ⊢ (Rd m ρ).payload ((c : Thread nD τ), sS) 0 false)
    (hp₂ : iprop(((dst.view.loc (n : Thread nD τ) ↦[dst.view.set]{fullShare} (dst.view.write (Elt F) fd (src.view.read (Elt F) fs) Finset.univ)) ∗ G)
              ∗ (src.view.loc (c : Thread nD τ) ↦[src.view.set]{fullShare} fs)) ⊢ (Rd m ρ).payload ((n : Thread nD τ), sem) 0 false) :
    iprop(cellInv ER (Rd m ρ) κ₁ ((c : Thread nD τ), sS) ∗ cellInv ER (Rd m ρ) κ₂ ((n : Thread nD τ), sem)
        ∗ (src.view.loc (c : Thread nD τ) ↦[src.view.set]{fullShare} fs)
        ∗ ((dst.view.loc (n : Thread nD τ) ↦[dst.view.set]{fullShare} fd) ∗ G)
        ∗ owes (c : Thread nD τ) O₀ W
        ∗ dutyTok ER ((c : Thread nD τ), sS) 0 false ∗ reached ER ((c : Thread nD τ), sS) 0
        ∗ dutyTok ER ((n : Thread nD τ), sem) 0 false ∗ reached ER ((n : Thread nD τ), sem) 0)
      ⊢ iprop(((cred (tallyAt ((c : Thread nD τ), sS) () N) ∗ owes (c : Thread nD τ) O W) -∗ Wp c (k ⟨⟩) Q)
          -∗ Wp c (.op (.enqueueDma src (.remote (Dev.tc n : Thread nD τ) dst sS hsc) sem hsrc hdst hsem) k) Q) :=
  Rounds.wp_send_landing_pointsTo_with (c' := (n : Thread nD τ)) (dst := dst) (fs := fs) (fd := fd) 𝒱₀ ER (Rd m ρ) (c : Thread nD τ) none hd₁ hd₂ () () N hN hk₁ hk₂ O hO hp₁ hp₂ (Topo.routes_tc _ _)

/-- A copy whose source is lent to its own cell, between two memrefs and two cells. -/
theorem gen_piece (n : Dev nD) (src dst : Memref sig .tc .vmem S512x512 .bf16) (sS sem : SemLoc sig)
    {hsc : (dst : Memref sig (Dev.tc n : Thread nD τ).2.kind .vmem S512x512 .bf16).view.ref.isScScratch = false}
    {hsrc : src.view.WordExact} {hdst : dst.view.WordExact}
    {hsem : DmaTarget.Typed .vmem sem (.remote (Dev.tc n : Thread nD τ) (dst : Memref sig (Dev.tc n : Thread nD τ).2.kind .vmem S512x512 .bf16) sS hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (n : Thread nD τ))) (sh : PosShare TreeShare) (G : sProp 𝕄) (κ₁ κ₂ : ℕ) (W : Waits sig Unit)
    (hd₁ : false ∈ (Rd m ρ).duties ((c : Thread nD τ), sS) 0) (hd₂ : false ∈ (Rd m ρ).duties ((n : Thread nD τ), sem) 0)
    (hN : dst.view.amount sem = N) (hk₁ : (Rd m ρ).amount ((c : Thread nD τ), sS) 0 false = N) (hk₂ : (Rd m ρ).amount ((n : Thread nD τ), sem) 0 false = N)
    (O₀ O : CellTallies nD τ sig Unit) (hO : O₀ = O + tallyAt ((n : Thread nD τ), sem) () N)
    (hp₁ : (src.view.loc (c : Thread nD τ) ↦[src.view.set]{sh} fs : sProp 𝕄) ⊢ (Rd m ρ).payload ((c : Thread nD τ), sS) 0 false)
    (hp₂ : iprop((dst.view.loc (n : Thread nD τ) ↦[dst.view.set]{fullShare} (dst.view.write (Elt F) fd (src.view.read (Elt F) fs) Finset.univ)) ∗ G) ⊢ (Rd m ρ).payload ((n : Thread nD τ), sem) 0 false) :
    iprop(cellInv ER (Rd m ρ) κ₁ ((c : Thread nD τ), sS) ∗ cellInv ER (Rd m ρ) κ₂ ((n : Thread nD τ), sem)
        ∗ (src.view.loc (c : Thread nD τ) ↦[src.view.set]{sh} fs)
        ∗ ((dst.view.loc (n : Thread nD τ) ↦[dst.view.set]{fullShare} fd) ∗ G)
        ∗ owes (c : Thread nD τ) O₀ W
        ∗ dutyTok ER ((c : Thread nD τ), sS) 0 false ∗ reached ER ((c : Thread nD τ), sS) 0
        ∗ dutyTok ER ((n : Thread nD τ), sem) 0 false ∗ reached ER ((n : Thread nD τ), sem) 0)
      ⊢ iprop(((cred (tallyAt ((c : Thread nD τ), sS) () N) ∗ owes (c : Thread nD τ) O W) -∗ Wp c (k ⟨⟩) Q)
          -∗ Wp c (.op (.enqueueDma src (.remote (Dev.tc n : Thread nD τ) dst sS hsc) sem hsrc hdst hsem) k) Q) :=
  Rounds.wp_send_pointsTo_with (c' := (n : Thread nD τ)) (dst := dst) (fs := fs) (fd := fd) 𝒱₀ ER (Rd m ρ) (c : Thread nD τ) none hd₁ hd₂ () () N hN hk₁ hk₂ O hO hp₁ hp₂ (Topo.routes_tc _ _)

/-- The copy of an accumulating hop, over what it uses. -/
theorem raw_slot (hh : h < 3) (hs : ∀ a, pOff (blk q h c) q a + S512x512.size a ≤ S2048x2048.size a)
    (hd : ∀ a, sOff (4 * h + q.val) a + S1x512x512.size a ≤ S12x512x512.size a)
    {hsc : (slotP (sOff (4 * h + q.val)) hd : Memref sig (Dev.tc (mv q 1 c) : Thread nD τ).2.kind .vmem S512x512 .bf16).view.ref.isScScratch = false}
    {hsrc : (accP (pOff (blk q h c) q) hs).view.WordExact} {hdst : (slotP (sOff (4 * h + q.val)) hd).view.WordExact}
    {hsem : DmaTarget.Typed .vmem (.dma (rcvS h q)) (.remote (Dev.tc (mv q 1 c) : Thread nD τ) (slotP (sOff (4 * h + q.val)) hd : Memref sig (Dev.tc (mv q 1 c) : Thread nD τ).2.kind .vmem S512x512 .bf16) (.dma (sndS h q)) hsc)}
    {α : Type} {Q : α → sProp 𝕄} {k : PUnit → Prog (TpuEff nD τ sig (Elt F) Λ₀ .tc) α} (fd : S12x512x512.Idx → Elt F .bf16) (κ₁ κ₂ : ℕ) (W : Waits sig Unit) :
    iprop(cellInv ER (Rd m ρ) κ₁ (sndCell c h q) ∗ cellInv ER (Rd m ρ) κ₂ (rcvCell (mv q 1 c) h q)
        ∗ acc c (blk q h c) q fullShare (T m ρ (min h 3))
        ∗ (slot (mv q 1 c) (4 * h + q.val) fd ∗ car (F := F) c (blk q h c) q (carry h))
        ∗ owes (c : Thread nD τ) (oweL c ((h, q) :: l)) W
        ∗ dutyTok ER (sndCell c h q) 0 false ∗ reached ER (sndCell c h q) 0
        ∗ dutyTok ER (rcvCell (mv q 1 c) h q) 0 false ∗ reached ER (rcvCell (mv q 1 c) h q) 0)
      ⊢ iprop(((cred (tallyAt (sndCell c h q) () N) ∗ owes (c : Thread nD τ) (oweL c l) W) -∗ Wp c (k ⟨⟩) Q)
          -∗ Wp c (.op (.enqueueDma (accP (pOff (blk q h c) q) hs) (.remote (Dev.tc (mv q 1 c) : Thread nD τ) (slotP (sOff (4 * h + q.val)) hd) (.dma (sndS h q)) hsc) (.dma (rcvS h q)) hsrc hdst hsem) k) Q) := by
  have h6 : h < 6 := by omega
  have hp := pay_slot m ρ c hh hs hd fd
  rw [slot_view _ _ hd, acc_view _ _ _ _ hs] at hp
  rw [slot_view _ _ hd, acc_view _ _ _ _ hs]
  exact gen_slot m ρ c (mv q 1 c) (accP (pOff (blk q h c) q) hs) (slotP (sOff (4 * h + q.val)) hd) (.dma (sndS h q)) (.dma (rcvS h q))
    (T m ρ (min h 3)) fd (car (F := F) c (blk q h c) q (carry h)) κ₁ κ₂ W
    (by rw [duties_snd m ρ c h6 q]; exact Finset.mem_singleton_self _) (by rw [duties_rcv m ρ _ h6 q]; exact Finset.mem_singleton_self _)
    (N_slot _ hd) (amount_snd m ρ c h6 q false) (amount_rcv m ρ _ h6 q false) _ (oweL c l) rfl
    (by rw [payload_snd m ρ c h6 q]; unfold sndPay; rw [if_pos hh]) hp

/-- The copy of a spreading hop, over what it uses. -/
theorem raw_piece (hh : 3 ≤ h) (h6 : h < 6) (hs hd : ∀ a, pOff (blk q h c) q a + S512x512.size a ≤ S2048x2048.size a)
    {hsc : (accP (pOff (blk q h c) q) hd : Memref sig (Dev.tc (mv q 1 c) : Thread nD τ).2.kind .vmem S512x512 .bf16).view.ref.isScScratch = false}
    {hsrc : (accP (pOff (blk q h c) q) hs).view.WordExact} {hdst : (accP (pOff (blk q h c) q) hd).view.WordExact}
    {hsem : DmaTarget.Typed .vmem (.dma (rcvS h q)) (.remote (Dev.tc (mv q 1 c) : Thread nD τ) (accP (pOff (blk q h c) q) hd : Memref sig (Dev.tc (mv q 1 c) : Thread nD τ).2.kind .vmem S512x512 .bf16) (.dma (sndS h q)) hsc)}
    {α : Type} {Q : α → sProp 𝕄} {k : PUnit → Prog (TpuEff nD τ sig (Elt F) Λ₀ .tc) α} (fd : S2048x2048.Idx → Elt F .bf16) (κ₁ κ₂ : ℕ) (W : Waits sig Unit) :
    iprop(cellInv ER (Rd m ρ) κ₁ (sndCell c h q) ∗ cellInv ER (Rd m ρ) κ₂ (rcvCell (mv q 1 c) h q)
        ∗ acc c (blk q h c) q fullShare.left (T m ρ 3)
        ∗ (acc (mv q 1 c) (blk q h c) q fullShare fd ∗ car (F := F) (mv q 1 c) (blk q h c) q (carry (h + 1)))
        ∗ owes (c : Thread nD τ) (oweL c ((h, q) :: l)) W
        ∗ dutyTok ER (sndCell c h q) 0 false ∗ reached ER (sndCell c h q) 0
        ∗ dutyTok ER (rcvCell (mv q 1 c) h q) 0 false ∗ reached ER (rcvCell (mv q 1 c) h q) 0)
      ⊢ iprop(((cred (tallyAt (sndCell c h q) () N) ∗ owes (c : Thread nD τ) (oweL c l) W) -∗ Wp c (k ⟨⟩) Q)
          -∗ Wp c (.op (.enqueueDma (accP (pOff (blk q h c) q) hs) (.remote (Dev.tc (mv q 1 c) : Thread nD τ) (accP (pOff (blk q h c) q) hd) (.dma (sndS h q)) hsc) (.dma (rcvS h q)) hsrc hdst hsem) k) Q) := by
  have h3 : ¬ h < 3 := by omega
  have hp := pay_piece m ρ c hh h6 hs hd fd
  have hq : acc c (blk q h c) q fullShare.left (T m ρ 3) ⊢ (Rd m ρ).payload (sndCell c h q) 0 false := by
    rw [payload_snd m ρ c h6 q]; unfold sndPay; rw [if_neg h3]
  rw [acc_view _ _ _ _ hd] at hp
  rw [acc_view _ _ _ _ hs] at hq
  rw [acc_view c _ _ fullShare.left hs, acc_view (mv q 1 c) _ _ fullShare hd]
  exact gen_piece m ρ c (mv q 1 c) (accP (pOff (blk q h c) q) hs) (accP (pOff (blk q h c) q) hd) (.dma (sndS h q)) (.dma (rcvS h q))
    (T m ρ 3) fd fullShare.left (car (F := F) (mv q 1 c) (blk q h c) q (carry (h + 1))) κ₁ κ₂ W
    (by rw [duties_snd m ρ c h6 q]; exact Finset.mem_singleton_self _) (by rw [duties_rcv m ρ _ h6 q]; exact Finset.mem_singleton_self _)
    (N_acc _ hd) (amount_snd m ρ c h6 q false) (amount_rcv m ρ _ h6 q false) _ (oweL c l) rfl hq hp

/-- An accumulating hop: the piece goes to the neighbour's slot, and the piece itself and what its sum carries go along. -/
theorem wp_send_slot (hh : h < 3) (hn : n = mv q 1 c) {offd : Fin 3 → ℕ} {hs hd} (ho : offs = pOff (blk q h c) q) (hod : offd = sOff (4 * h + q.val))
    (hS : sS = .dma (sndS h q)) (hR : sem = .dma (rcvS h q))
    {hsc : (slotP offd hd : Memref sig (Dev.tc n : Thread nD τ).2.kind .vmem S512x512 .bf16).view.ref.isScScratch = false}
    {hsrc : (accP offs hs).view.WordExact} {hdst : (slotP offd hd).view.WordExact}
    {hsem : DmaTarget.Typed .vmem sem (.remote (Dev.tc n : Thread nD τ) (slotP offd hd : Memref sig (Dev.tc n : Thread nD τ).2.kind .vmem S512x512 .bf16) sS hsc)}
    {α : Type} {Q : α → sProp 𝕄} {k : PUnit → Prog (TpuEff nD τ sig (Elt F) Λ₀ .tc) α} :
    iprop(recs m ρ ∗ sd (F := F) c q h ∗ cur m ρ c q h ∗ debt c (oweL c ((h, q) :: l)))
      ⊢ iprop(((dS (F := F) c q h ∗ debt c (oweL c l)) -∗ Wp c (k ⟨⟩) Q)
          -∗ Wp c (.op (.enqueueDma (accP offs hs) (.remote (Dev.tc n : Thread nD τ) (slotP offd hd) sS hsc) sem hsrc hdst hsem) k) Q) := by
  subst hn ho hod hS hR
  have h6 : h < 6 := by omega
  unfold sd sd₀ cur debt dS
  rw [if_pos hh]
  iintro ⟨#HR, ⟨⟨HtS, HtR, Hat⟩, Hslot⟩, ⟨Hacc, Hcar⟩, Ho⟩ Hk
  unfold slotAny
  icases Hslot with ⟨%fd, Hslot⟩
  icases Ho with ⟨%W, Ho⟩
  ihave H1 := (recs_snd m ρ c h6 q) $$ HR
  icases H1 with ⟨⟨%κ₁, #HI1⟩, #Hr1⟩
  ihave H2 := (recs_rcv m ρ (mv q 1 c) h6 q) $$ HR
  icases H2 with ⟨⟨%κ₂, #HI2⟩, #Hr2⟩
  iapply (raw_slot m ρ c (l := l) hh hs hd fd κ₁ κ₂ W) $$ [HtS HtR Hslot Hacc Hcar Ho]
  · isplitr; · iexact HI1
    isplitr; · iexact HI2
    isplitl [Hacc]; · iexact Hacc
    isplitl [Hslot Hcar]
    · isplitl [Hslot]; · iexact Hslot
      iexact Hcar
    isplitl [Ho]; · iexact Ho
    isplitl [HtS]; · iexact HtS
    isplitr; · iexact Hr1
    isplitl [HtR]; · iexact HtR
    iexact Hr2
  iintro ⟨Hc, Ho⟩
  iapply Hk
  isplitl [Hc Hat]
  · isplitl [Hc]; · iexact Hc
    iexact Hat
  iexists W; iexact Ho

/-- A spreading hop: half of the piece is lent to the copy, the other half stays with the sender. -/
theorem wp_send_piece (hh : 3 ≤ h) (h6 : h < 6) (hn : n = mv q 1 c) {offd : Fin 2 → ℕ} {hs hd} (ho : offs = pOff (blk q h c) q) (hod : offd = pOff (blk q h c) q)
    (hS : sS = .dma (sndS h q)) (hR : sem = .dma (rcvS h q))
    {hsc : (accP offd hd : Memref sig (Dev.tc n : Thread nD τ).2.kind .vmem S512x512 .bf16).view.ref.isScScratch = false}
    {hsrc : (accP offs hs).view.WordExact} {hdst : (accP offd hd).view.WordExact}
    {hsem : DmaTarget.Typed .vmem sem (.remote (Dev.tc n : Thread nD τ) (accP offd hd : Memref sig (Dev.tc n : Thread nD τ).2.kind .vmem S512x512 .bf16) sS hsc)}
    {α : Type} {Q : α → sProp 𝕄} {k : PUnit → Prog (TpuEff nD τ sig (Elt F) Λ₀ .tc) α} :
    iprop(recs m ρ ∗ sd (F := F) c q h ∗ cur m ρ c q h ∗ debt c (oweL c ((h, q) :: l)))
      ⊢ iprop(((dS (F := F) c q h ∗ acc c (blk q h c) q fullShare.right (T m ρ 3) ∗ debt c (oweL c l)) -∗ Wp c (k ⟨⟩) Q)
          -∗ Wp c (.op (.enqueueDma (accP offs hs) (.remote (Dev.tc n : Thread nD τ) (accP offd hd) sS hsc) sem hsrc hdst hsem) k) Q) := by
  subst hn ho hod hS hR
  have h3 : ¬ h < 3 := by omega
  unfold sd sd₀ cur debt dS
  rw [Nat.min_eq_right hh, acc_halves]
  iintro ⟨#HR, ⟨⟨HtS, HtR, Hat⟩, -⟩, ⟨⟨Hacc, Hright⟩, Hcar⟩, Ho⟩ Hk
  icases Ho with ⟨%W, Ho⟩
  ihave Hc2 := (car_take hh h6 c (blk q h c) q) $$ Hcar
  icases Hc2 with ⟨⟨%fd, Hdst⟩, Hcar⟩
  ihave H1 := (recs_snd m ρ c h6 q) $$ HR
  icases H1 with ⟨⟨%κ₁, #HI1⟩, #Hr1⟩
  ihave H2 := (recs_rcv m ρ (mv q 1 c) h6 q) $$ HR
  icases H2 with ⟨⟨%κ₂, #HI2⟩, #Hr2⟩
  iapply (raw_piece m ρ c (l := l) hh h6 hs hd fd κ₁ κ₂ W) $$ [HtS HtR Hdst Hacc Hcar Ho]
  · isplitr; · iexact HI1
    isplitr; · iexact HI2
    isplitl [Hacc]; · iexact Hacc
    isplitl [Hdst Hcar]
    · isplitl [Hdst]; · iexact Hdst
      iexact Hcar
    isplitl [Ho]; · iexact Ho
    isplitl [HtS]; · iexact HtS
    isplitr; · iexact Hr1
    isplitl [HtR]; · iexact HtR
    iexact Hr2
  iintro ⟨Hc, Ho⟩
  iapply Hk
  isplitl [Hc Hat]
  · isplitl [Hc]; · iexact Hc
    iexact Hat
  isplitl [Hright]; · iexact Hright
  iexists W; iexact Ho

end Send

/-! ## Waits -/

section Wait

variable (c : Dev nD) {h : ℕ} {q : Fin 4} {l : List (ℕ × Fin 4)} {sem : DmaSem sig}
  {sp sp' : Space} {s : Shape} {e : EltTy}
  {src : Memref sig .tc sp s e} {dst : Memref sig .tc sp' s e} {hsrc : src.view.WordExact} {hdst : dst.view.WordExact}

/-- What a receiver holds for hop `h`: its position at the cell and the credit it will take from it. -/
def rv (c : Dev nD) (q : Fin 4) (h : ℕ) : sProp 𝕄 :=
  iprop(atPos ER (rcvCell c h q) 0 ∅ 0 ∗ cred (tallyAt (rcvCell c h q) () N))

/-- A wait for a copy in, by a device that has only later hops to send: the landing is the device's, the cell is done with. -/
theorem wp_wait_in (h6 : h < 6) (hsem : sem = rcvS h q) (hN : dst.view.dmaCredit = N) (hl : ∀ p ∈ l, p.1 < 6 ∧ h < p.1)
    {α : Type} {Q : α → sProp 𝕄} {k : PUnit → Prog (TpuEff nD τ sig (Elt F) Λ₀ .tc) α} :
    iprop(recs m ρ ∗ rv (F := F) c q h ∗ debt c (oweL c l))
      ⊢ iprop(((semVal (rcvCell c h q) 0 ∗ rcvPay m ρ c h q ∗ debt c (oweL c l)) -∗ Wp c (k ⟨⟩) Q)
          -∗ Wp c (.op (.waitDma2 sem src dst hsrc hdst) k) Q) := by
  subst hsem
  unfold rv debt
  iintro ⟨#HR, ⟨Hat, Hcr⟩, %W, Ho⟩ Hk
  ihave H2 := (recs_rcv m ρ c h6 q) $$ HR
  icases H2 with ⟨⟨%κ, #HI⟩, -⟩
  have he : 0 + dst.view.dmaCredit = (Rd m ρ).expect (rcvCell c h q) 0 := by rw [Nat.zero_add, expect_rcv m ρ c h6 q, hN]
  rw [← hN]
  iapply (Rounds.wp_wait_rest_token 𝒱₀ ER (Rd m ρ) (c : Thread nD τ) none (κ := κ)
      (wpE_waitDma2_eq 𝒱₀ (c : Thread nD τ) none Set.univ) (Set.mem_univ _) () (O := oweL c l) (W := W) (R := 0) (m := 0) (T := ∅) he) $$ [Hcr Ho Hat]
  · isplitr; · iexact HI
    isplitl [Hcr]; · iexact Hcr
    isplitl [Ho]; · iexact Ho
    isplitr
    · iapply (mayWait c _ l (fun p hp => ⟨(hl p hp).1, by rw [use_rcv h6 q]; exact Nat.add_lt_add_left (hl p hp).2 2⟩))
      iapply (recs_levs m ρ); iexact HR
    iexact Hat
  iintro ⟨Ho, Hat, -, Hpay⟩
  ihave Hp := (Entails.of_eq (rest_rcv m ρ c h6 q)) $$ Hpay
  imod (Rounds.cell_close ER (Rd m ρ) (Set.mem_univ κ) (id : False → False) (R := 0 + 1) (duties_later m ρ (rcvCell c h q))) $$ [Hat] with Hz
  · isplitr; · iexact HI
    iexact Hat
  iapply Hk
  isplitl [Hz]; · iexact Hz
  isplitl [Hp]; · iexact Hp
  iexists _; iexact Ho

/-- A copy out that has been waited for: the cell is done with, and the lent half, if any, is back. -/
def dE (c : Dev nD) (q : Fin 4) (h : ℕ) : sProp 𝕄 := iprop(semVal (sndCell c h q) 0 ∗ sndPay m ρ c h q)

/-- A wait for a copy out, by a device with nothing left to send. -/
theorem wp_wait_out (h6 : h < 6) (hsem : sem = sndS h q) (hN : dst.view.dmaCredit = N)
    {α : Type} {Q : α → sProp 𝕄} {k : PUnit → Prog (TpuEff nD τ sig (Elt F) Λ₀ .tc) α} :
    iprop(recs m ρ ∗ dS (F := F) c q h ∗ debt c 0)
      ⊢ iprop(((dE m ρ c q h ∗ debt c 0) -∗ Wp c (k ⟨⟩) Q) -∗ Wp c (.op (.waitDma2 sem src dst hsrc hdst) k) Q) := by
  subst hsem
  unfold dS debt dE
  iintro ⟨#HR, ⟨Hcr, Hat⟩, %W, Ho⟩ Hk
  ihave H2 := (recs_snd m ρ c h6 q) $$ HR
  icases H2 with ⟨⟨%κ, #HI⟩, -⟩
  have he : 0 + dst.view.dmaCredit = (Rd m ρ).expect (sndCell c h q) 0 := by rw [Nat.zero_add, expect_snd m ρ c h6 q, hN]
  rw [← hN]
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅) he) $$ [Hcr Ho Hat]
  · isplitr; · iexact HI
    isplitl [Hcr]; · iexact Hcr
    isplitl [Ho]; · iexact Ho
    isplitr; · rw [MayWait_zero]; iempintro
    iexact Hat
  iintro ⟨Ho, Hat, -, Hpay⟩
  ihave Hp := (Entails.of_eq (rest_snd m ρ c h6 q)) $$ Hpay
  imod (Rounds.cell_close ER (Rd m ρ) (Set.mem_univ κ) (id : False → False) (R := 0 + 1) (duties_later m ρ (sndCell c h q))) $$ [Hat] with Hz
  · isplitr; · iexact HI
    iexact Hat
  iapply Hk
  isplitl [Hz Hp]
  · isplitl [Hz]; · iexact Hz
    iexact Hp
  iexists _; iexact Ho

end Wait

/-! ## Products, additions, results -/

/-- The staged operands; a row block of the partial product, and of the result, at whatever they hold. -/
def xo (c : Dev nD) : sProp 𝕄 := (c : Thread nD τ).loc cc0_stg0_0 ↦{fullShare} (xstg m ρ c : Buf (Elt F) ((c : Thread nD τ).loc cc0_stg0_0))
def wo (c : Dev nD) : sProp 𝕄 := (c : Thread nD τ).loc cc0_stg1_0 ↦{fullShare} (wstg m ρ c : Buf (Elt F) ((c : Thread nD τ).loc cc0_stg1_0))
def accAny (c : Dev nD) (k : Fin 4) : sProp 𝕄 := iprop(∃ V, accRow (F := F) c k fullShare V)
def outAny (c : Dev nD) (k : Fin 4) : sProp 𝕄 := iprop(∃ V, outRow (F := F) c k V)

/-- The whole second operand, as a load reads it. -/
theorem read_w (c : Dev nD) (h) :
    wM.view.readAt (Elt F) (Rect.unit (s := S512x2048) ![0, 0] S512x2048.size h).toLoadRect (wstg m ρ c) = wstg m ρ c := by
  have hz : (![0, 0] : Fin 2 → ℕ) = fun _ => 0 := by decide
  exact Memref.readAt_unit_zero (Elt F) cc0_stg1_0 hz _ (wstg m ρ c)

/-- One row block of the product: the operands are read, the row block is written. -/
theorem wp_gemm (c : Dev nD) (k : Fin 4) {o1 o2 : Fin 2 → ℕ} (h1 : o1 = rOff k) (h2 : o2 = rOff k) {i1 i2 i3}
    {pay : Vec F S512x512 .bf16 → Vec F S512x2048 .bf16 → FVec F S512x2048 .bf16} (hp : pay = k0_pay1)
    {l1 : xM.view.LoadsAt (Rect.unit (s := S2048x512) o1 S512x512.size i1).toLoadRect}
    {l2 : wM.view.LoadsAt (Rect.unit (s := S512x2048) ![0, 0] S512x2048.size i2).toLoadRect}
    {l3 : aM.view.LoadsAt (Rect.unit (s := S2048x2048) o2 S512x2048.size i3).toLoadRect}
    {hs : (aM.access (Rect.unit (s := S2048x2048) o2 S512x2048.size i3)).Stores Finset.univ} {hm}
    {α : Type} {Q : α → sProp 𝕄} {kk : PUnit → Prog (TpuEff nD τ sig (Elt F) Λ₀ .tc) α} :
    iprop(xo m ρ c ∗ wo m ρ c ∗ accAny c k)
      ⊢ iprop(((xo m ρ c ∗ wo m ρ c ∗ accRow c k fullShare (P m ρ c)) -∗ Wp c (kk ⟨⟩) Q)
          -∗ Wp c (.op (.load xM (Rect.unit (s := S2048x512) o1 S512x512.size i1).toLoadRect l1) fun v =>
              .op (.load wM (Rect.unit (s := S512x2048) ![0, 0] S512x2048.size i2).toLoadRect l2) fun w =>
              .op (.load aM (Rect.unit (s := S2048x2048) o2 S512x2048.size i3).toLoadRect l3) fun _ =>
              .op (.store aM (Rect.unit (s := S2048x2048) o2 S512x2048.size i3) (pay v w) Finset.univ hs hm) kk) Q) := by
  subst h1 h2 hp
  unfold xo wo accAny accRow
  iintro ⟨Hx, Hw, %V, Ha⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := aM) (r := Rect.unit (s := S2048x2048) (rOff k) S512x2048.size i3)
    (by rw [set_a, rect_rSet])) $$ Ha; iintro Ha
  iapply (wp_store 𝒱₀ (c : Thread nD τ) none Set.univ (m := aM) (r := Rect.unit (s := S2048x2048) (rOff k) S512x2048.size i3) (Mk := Finset.univ)
    (by rw [setOn_a, rect_rSet])) $$ Ha; iintro Ha
  iapply Hk
  isplitl [Hx]; · iexact Hx
  isplitl [Hw]; · iexact Hw
  rw [read_w]
  ihave Hb := (Entails.of_eq (accRow_congr c k fullShare (write_gemm m ρ c k i3 V))) $$ [Ha]
  · unfold accRow; iexact Ha
  unfold accRow
  iexact Hb

/-- One addition: a received piece is added to the device's own, and the slot is free again. -/
theorem wp_add (c : Dev nD) (n : ℕ) (k q : Fin 4) (hc : mv q (n + 1) k = c) {o1 : Fin 2 → ℕ} {o2 : Fin 3 → ℕ} (h1 : o1 = pOff k q)
    (h2 : o2 = sOff (4 * n + q.val)) {i1 i2} {pay : Vec F S512x512 .bf16 → Vec F S1x512x512 .bf16 → FVec F S512x512 .bf16} (hp : pay = k0_pay5)
    {l1 : aM.view.LoadsAt (Rect.unit (s := S2048x2048) o1 S512x512.size i1).toLoadRect}
    {l2 : bM.view.LoadsAt (Rect.unit (s := S12x512x512) o2 S1x512x512.size i2).toLoadRect}
    {l3 : aM.view.LoadsAt (Rect.unit (s := S2048x2048) o1 S512x512.size i1).toLoadRect}
    {hs : (aM.access (Rect.unit (s := S2048x2048) o1 S512x512.size i1)).Stores Finset.univ} {hm}
    {α : Type} {Q : α → sProp 𝕄} {kk : PUnit → Prog (TpuEff nD τ sig (Elt F) Λ₀ .tc) α} :
    iprop(acc c k q fullShare (P m ρ c) ∗ slotHas c (4 * n + q.val) (pieceOf (T m ρ n) k q))
      ⊢ iprop(((acc c k q fullShare (T m ρ (n + 1)) ∗ slotAny (F := F) c (4 * n + q.val)) -∗ Wp c (kk ⟨⟩) Q)
          -∗ Wp c (.op (.load aM (Rect.unit (s := S2048x2048) o1 S512x512.size i1).toLoadRect l1) fun v =>
              .op (.load bM (Rect.unit (s := S12x512x512) o2 S1x512x512.size i2).toLoadRect l2) fun w =>
              .op (.load aM (Rect.unit (s := S2048x2048) o1 S512x512.size i1).toLoadRect l3) fun _ =>
              .op (.store aM (Rect.unit (s := S2048x2048) o1 S512x512.size i1) (pay v w) Finset.univ hs hm) kk) Q) := by
  subst h1 h2 hp
  unfold acc slotHas slot
  iintro ⟨Ha, %f, %hf, Hb⟩ Hk
  iapply (wp_load_rect 𝒱₀ (c : Thread nD τ) none Set.univ (m := aM) (r := Rect.unit (s := S2048x2048) (pOff k q) S512x512.size i1)
    (by rw [set_a, rect_pSet])) $$ Ha; iintro Ha
  iapply (wp_load_rect 𝒱₀ (c : Thread nD τ) none Set.univ (m := bM) (r := Rect.unit (s := S12x512x512) (sOff (4 * n + q.val)) S1x512x512.size i2)
    (by rw [set_b, rect_sSet])) $$ Hb; iintro Hb
  iapply (wp_load_rect 𝒱₀ (c : Thread nD τ) none Set.univ (m := aM) (r := Rect.unit (s := S2048x2048) (pOff k q) S512x512.size i1)
    (by rw [set_a, rect_pSet])) $$ Ha; iintro Ha
  iapply (wp_store 𝒱₀ (c : Thread nD τ) none Set.univ (m := aM) (r := Rect.unit (s := S2048x2048) (pOff k q) S512x512.size i1) (Mk := Finset.univ)
    (by rw [setOn_a, rect_pSet])) $$ Ha; iintro Ha
  iapply Hk
  isplitl [Ha]
  · have e := acc_congr c k q fullShare (write_add m ρ c n k q hc i1 (P m ρ c)
      ((bM.access (Rect.unit (s := S12x512x512) (sOff (4 * n + q.val)) S1x512x512.size i2)).read (Elt F) f) (hf i2))
    unfold acc at e
    iapply (Entails.of_eq e)
    iexact Ha
  · unfold slotAny slot
    iexists f; iexact Hb

/-- One row block of the result: the finished row block is read at any share, the widened one is written. -/
theorem wp_out (c : Dev nD) (k : Fin 4) (sh : PosShare TreeShare) {o1 : Fin 2 → ℕ} (h1 : o1 = rOff k) {i1}
    {pay : Vec F S512x2048 .bf16 → FVec F S512x2048 .f32} (hp : pay = k0_pay17)
    {l1 : aM.view.LoadsAt (Rect.unit (s := S2048x2048) o1 S512x2048.size i1).toLoadRect}
    {l2 : oM.view.LoadsAt (Rect.unit (s := S2048x2048) o1 S512x2048.size i1).toLoadRect}
    {hs : (oM.access (Rect.unit (s := S2048x2048) o1 S512x2048.size i1)).Stores Finset.univ} {hm}
    {α : Type} {Q : α → sProp 𝕄} {kk : PUnit → Prog (TpuEff nD τ sig (Elt F) Λ₀ .tc) α} :
    iprop(accRow c k sh (T m ρ 3) ∗ outAny (F := F) c k)
      ⊢ iprop(((accRow c k sh (T m ρ 3) ∗ outRow c k (outAt m ρ)) -∗ Wp c (kk ⟨⟩) Q)
          -∗ Wp c (.op (.load aM (Rect.unit (s := S2048x2048) o1 S512x2048.size i1).toLoadRect l1) fun v =>
              .op (.load oM (Rect.unit (s := S2048x2048) o1 S512x2048.size i1).toLoadRect l2) fun _ =>
              .op (.store oM (Rect.unit (s := S2048x2048) o1 S512x2048.size i1) (pay v) Finset.univ hs hm) kk) Q) := by
  subst h1 hp
  unfold accRow outAny outRow
  iintro ⟨Ha, %f, Ho⟩ Hk
  iapply (wp_load_rect 𝒱₀ (c : Thread nD τ) none Set.univ (m := aM) (r := Rect.unit (s := S2048x2048) (rOff k) S512x2048.size i1)
    (by rw [set_a, rect_rSet])) $$ Ha; iintro Ha
  iapply (wp_load_rect 𝒱₀ (c : Thread nD τ) none Set.univ (m := oM) (r := Rect.unit (s := S2048x2048) (rOff k) S512x2048.size i1)
    (by rw [set_o, rect_rSet])) $$ Ho; iintro Ho
  iapply (wp_store 𝒱₀ (c : Thread nD τ) none Set.univ (m := oM) (r := Rect.unit (s := S2048x2048) (rOff k) S512x2048.size i1) (Mk := Finset.univ)
    (by rw [setOn_o, rect_rSet])) $$ Ho; iintro Ho
  iapply Hk
  isplitl [Ha]; · iexact Ha
  have e := outRow_congr c k (write_out m ρ k i1 f)
  unfold outRow at e
  iapply (Entails.of_eq e)
  iexact Ho

/-! ## The barrier -/

/-- A signal to a neighbour's barrier, with what it hands over. -/
theorem wp_signal_bar (c n n' : Dev nD) (hn : n' = n) (d : Bool) (O : CellTallies nD τ sig Unit) {sem : Sem sig} (hs : sem = barS) {w : Int} (hw : w = ((1 : ℕ) : Int))
    {α : Type} {Q : α → sProp 𝕄} {k : PUnit → Prog (TpuEff nD τ sig (Elt F) Λ₀ .tc) α} :
    iprop(recs m ρ ∗ dutyTok ER (barCell n) 0 d ∗ barPay (F := F) n d ∗ debt c (O + tallyAt (barCell n) () 1))
      ⊢ iprop((debt c O -∗ Wp c (k ⟨⟩) Q) -∗ Wp c (.op (.semSignal (n' : Thread nD τ) sem w) k) Q) := by
  subst hn hs hw
  unfold debt
  iintro ⟨#HR, Ht, Hp, %W, Ho⟩ Hk
  ihave H2 := (recs_bar m ρ n') $$ HR
  icases H2 with ⟨⟨%κ, #HI⟩, #Hr⟩
  iapply (Rounds.wp_signal 𝒱₀ ER (Rd m ρ) (c : Thread nD τ) none (dst := (n' : Thread nD τ)) (κ := κ) (d := d)
      (by rw [duties_bar]; exact Finset.mem_univ _) (amount_bar m ρ n' d) () O rfl) $$ [Ht Hp Ho]
  · isplitr; · iexact HI
    isplitl [Ho]; · iexact Ho
    isplitl [Ht]; · iexact Ht
    isplitl [Hp]; · rw [payload_bar]; iexact Hp
    iexact Hr
  iintro Ho
  iapply Hk
  iexists W; iexact Ho

/-- The wait for both neighbours: their slots are the device's to fill. -/
theorem wp_wait_bar (c : Dev nD) (l : List (ℕ × Fin 4)) (hl : ∀ p ∈ l, p.1 < 6) {sem : Sem sig} (hs : sem = barS) {w : Int} (hw : w = ((2 : ℕ) : Int))
    {α : Type} {Q : α → sProp 𝕄} {k : PUnit → Prog (TpuEff nD τ sig (Elt F) Λ₀ .tc) α} :
    iprop(recs m ρ ∗ atPos ER (barCell c) 0 ∅ 0 ∗ cred (tallyAt (barCell c) () 2) ∗ debt c (oweL c l))
      ⊢ iprop(((semVal (barCell c) 0 ∗ barPay (F := F) c false ∗ barPay (F := F) c true ∗ debt c (oweL c l)) -∗ Wp c (k ⟨⟩) Q)
          -∗ Wp c (.op (.semWait sem w) k) Q) := by
  subst hs hw
  unfold debt
  iintro ⟨#HR, Hat, Hcr, %W, Ho⟩ Hk
  ihave H2 := (recs_bar m ρ c) $$ HR
  icases H2 with ⟨⟨%κ, #HI⟩, -⟩
  iapply (Rounds.wp_wait_rest_token 𝒱₀ ER (Rd m ρ) (c : Thread nD τ) none (κ := κ)
      (wpE_semWait_eq 𝒱₀ (c : Thread nD τ) none Set.univ) (Set.mem_univ _) () (O := oweL c l) (W := W) (R := 0) (m := 0) (T := ∅)
      (by rw [expect_bar])) $$ [Hcr Ho Hat]
  · isplitr; · iexact HI
    isplitl [Hcr]; · iexact Hcr
    isplitl [Ho]; · iexact Ho
    isplitr
    · iapply (mayWait c _ l (fun p hp => ⟨hl p hp, by rw [use_bar]; show 1 < 2 + p.1; omega⟩))
      iapply (recs_levs m ρ); iexact HR
    iexact Hat
  iintro ⟨Ho, Hat, -, Hpay⟩
  ihave Hp := (Entails.of_eq (rest_bar m ρ c)) $$ Hpay
  icases Hp with ⟨Hp1, Hp2⟩
  imod (Rounds.cell_close ER (Rd m ρ) (Set.mem_univ κ) (id : False → False) (R := 0 + 1) (duties_later m ρ (barCell c))) $$ [Hat] with Hz
  · isplitr; · iexact HI
    iexact Hat
  iapply Hk
  isplitl [Hz]; · iexact Hz
  isplitl [Hp1]; · iexact Hp1
  isplitl [Hp2]; · iexact Hp2
  iexists _; iexact Ho

end Cert.AllReduce

end
-- ==== Proof.Chain.lean ====
/-
  What a device holds for one column block between its steps, and each kind of step as a move from one such state to the
  next.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds for one column block -/

/-- `f a`, `f (a + 1)`, … (`n` of them); `f (n - 1)`, …, `f 0`. -/
def up (f : ℕ → sProp 𝕄) : ℕ → ℕ → sProp 𝕄
  | 0, _ => iprop(emp)
  | n + 1, a => iprop(f a ∗ up f n (a + 1))
def dn (f : ℕ → sProp 𝕄) : ℕ → sProp 𝕄
  | 0 => iprop(emp)
  | n + 1 => iprop(f n ∗ dn f n)

omit [FloatOps F] in
theorem up_succ (f : ℕ → sProp 𝕄) (n a : ℕ) : up f (n + 1) a = iprop(f a ∗ up f n (a + 1)) := rfl
omit [FloatOps F] in
theorem dn_succ (f : ℕ → sProp 𝕄) (n : ℕ) : dn f (n + 1) = iprop(f n ∗ dn f n) := rfl

/-- A copy in that is done with: its cell at zero and, on an accumulating hop, the slot it filled. -/
def dR (c : Dev nD) (q : Fin 4) (h : ℕ) : sProp 𝕄 := iprop(semVal (rcvCell c h q) 0 ∗ (if h < 3 then slotAny (F := F) c (4 * h + q.val) else iprop(emp)))
/-- The piece of the device's own product that the sum received on hop `h` is added to. -/
def pc (c : Dev nD) (q : Fin 4) (h : ℕ) : sProp 𝕄 := acc c (blk q (h + 1) c) q fullShare (P m ρ c)

/-- The half of a finished piece that stays while its copy is on the way. -/
def rh (c : Dev nD) (q : Fin 4) (h : ℕ) : sProp 𝕄 := acc c (blk q h c) q fullShare.right (T m ρ 3)

/-- Ready to send hop `h`, `n` sends to go; `X` is kept beside. -/
def Rdy (c : Dev nD) (q : Fin 4) (X : sProp 𝕄) (n h : ℕ) : sProp 𝕄 :=
  iprop(up (sd (F := F) c q) n h ∗ up (rv (F := F) c q) n h ∗ dn (dS (F := F) c q) h ∗ dn (dR (F := F) c q) h ∗ X ∗ cur m ρ c q h)
/-- Hop `h` is sent, `n` sends to go. -/
def Snt (c : Dev nD) (q : Fin 4) (X : sProp 𝕄) (n h : ℕ) : sProp 𝕄 :=
  iprop(up (sd (F := F) c q) n (h + 1) ∗ up (rv (F := F) c q) (n + 1) h ∗ dn (dS (F := F) c q) (h + 1) ∗ dn (dR (F := F) c q) h ∗ X)
/-- Hop `h` is sent and the neighbour's has come in. -/
def Got (c : Dev nD) (q : Fin 4) (X : sProp 𝕄) (n h : ℕ) : sProp 𝕄 :=
  iprop(up (sd (F := F) c q) n (h + 1) ∗ up (rv (F := F) c q) n (h + 1) ∗ dn (dS (F := F) c q) (h + 1) ∗ dn (dR (F := F) c q) h ∗ X
    ∗ semVal (rcvCell c h q) 0 ∗ rcvPay m ρ c h q)

/-- What is kept beside may be put aside. -/
theorem got_swap (c : Dev nD) (q : Fin 4) (X Y : sProp 𝕄) (n h : ℕ) : iprop(Got m ρ c q X n h ∗ Y) ⊢ iprop(Got m ρ c q Y n h ∗ X) := by
  unfold Got
  iintro ⟨⟨H1, H2, H3, H4, H5, H7⟩, H6⟩
  isplitr [H5]
  · isplitl [H1]; · iexact H1
    isplitl [H2]; · iexact H2
    isplitl [H3]; · iexact H3
    isplitl [H4]; · iexact H4
    isplitl [H6]; · iexact H6
    iexact H7
  iexact H5

/-- What is kept beside may be put aside. -/
theorem snt_swap (c : Dev nD) (q : Fin 4) (X Y : sProp 𝕄) (n h : ℕ) : iprop(Snt (F := F) c q X n h ∗ Y) ⊢ iprop(Snt c q Y n h ∗ X) := by
  unfold Snt
  iintro ⟨⟨H1, H2, H3, H4, H5⟩, H6⟩
  isplitr [H5]
  · isplitl [H1]; · iexact H1
    isplitl [H2]; · iexact H2
    isplitl [H3]; · iexact H3
    isplitl [H4]; · iexact H4
    iexact H6
  iexact H5

section Ops
variable (c : Dev nD) (q : Fin 4) (n h : ℕ) (l : List (ℕ × Fin 4)) {d : Dev nD} {sS sR : DmaSem sig} {offs : Fin 2 → ℕ}

/-- Sending an accumulating hop. -/
theorem st_send_slot (X : sProp 𝕄) (hh : h < 3) (hn : d = mv q 1 c) {offd : Fin 3 → ℕ} {hs hd} (ho : offs = pOff (blk q h c) q) (hod : offd = sOff (4 * h + q.val))
    (hS : sS = sndS h q) (hR : sR = rcvS h q)
    {hsc : (slotP offd hd : Memref sig (Dev.tc d : Thread nD τ).2.kind .vmem S512x512 .bf16).view.ref.isScScratch = false}
    {hsrc : (accP offs hs).view.WordExact} {hdst : (slotP offd hd).view.WordExact}
    {hsem : DmaTarget.Typed .vmem (.dma sR) (.remote (Dev.tc d : Thread nD τ) (slotP offd hd : Memref sig (Dev.tc d : Thread nD τ).2.kind .vmem S512x512 .bf16) (.dma sS) hsc)}
    {α : Type} {Q : α → sProp 𝕄} {k : PUnit → Prog (TpuEff nD τ sig (Elt F) Λ₀ .tc) α} :
    iprop(recs m ρ ∗ Rdy m ρ c q X (n + 1) h ∗ debt c (oweL c ((h, q) :: l)))
      ⊢ iprop(((Snt c q X n h ∗ debt c (oweL c l)) -∗ Wp c (k ⟨⟩) Q)
          -∗ Wp c (.op (.enqueueDma (accP offs hs) (.remote (Dev.tc d : Thread nD τ) (slotP offd hd) (.dma sS) hsc) (.dma sR) hsrc hdst hsem) k) Q) := by
  unfold Rdy Snt
  simp only [up_succ, dn_succ]
  iintro ⟨#HR, ⟨⟨Hsd, H1⟩, H2, H3, H4, HX, Hcur⟩, Ho⟩ Hk
  iapply (wp_send_slot m ρ c d (l := l) hh hn ho hod (congrArg SemLoc.dma hS) (congrArg SemLoc.dma hR)) $$ [Hsd Hcur Ho]
  · isplitr; · iexact HR
    isplitl [Hsd]; · iexact Hsd
    isplitl [Hcur]; · iexact Hcur
    iexact Ho
  iintro ⟨Hd, Ho⟩
  iapply Hk
  isplitr [Ho]
  · isplitl [H1]; · iexact H1
    isplitl [H2]; · iexact H2
    isplitl [H3 Hd]
    · isplitl [Hd]; · iexact Hd
      iexact H3
    isplitl [H4]; · iexact H4
    iexact HX
  iexact Ho

/-- Sending a spreading hop: the other half of the piece stays. -/
theorem st_send_piece (X : sProp 𝕄) (hh : 3 ≤ h) (h6 : h < 6) (hn : d = mv q 1 c) {offd : Fin 2 → ℕ} {hs hd} (ho : offs = pOff (blk q h c) q) (hod : offd = pOff (blk q h c) q)
    (hS : sS = sndS h q) (hR : sR = rcvS h q)
    {hsc : (accP offd hd : Memref sig (Dev.tc d : Thread nD τ).2.kind .vmem S512x512 .bf16).view.ref.isScScratch = false}
    {hsrc : (accP offs hs).view.WordExact} {hdst : (accP offd hd).view.WordExact}
    {hsem : DmaTarget.Typed .vmem (.dma sR) (.remote (Dev.tc d : Thread nD τ) (accP offd hd : Memref sig (Dev.tc d : Thread nD τ).2.kind .vmem S512x512 .bf16) (.dma sS) hsc)}
    {α : Type} {Q : α → sProp 𝕄} {k : PUnit → Prog (TpuEff nD τ sig (Elt F) Λ₀ .tc) α} :
    iprop(recs m ρ ∗ Rdy m ρ c q X (n + 1) h ∗ debt c (oweL c ((h, q) :: l)))
      ⊢ iprop(((Snt c q X n h ∗ rh m ρ c q h ∗ debt c (oweL c l)) -∗ Wp c (k ⟨⟩) Q)
          -∗ Wp c (.op (.enqueueDma (accP offs hs) (.remote (Dev.tc d : Thread nD τ) (accP offd hd) (.dma sS) hsc) (.dma sR) hsrc hdst hsem) k) Q) := by
  unfold Rdy Snt rh
  simp only [up_succ, dn_succ]
  iintro ⟨#HR, ⟨⟨Hsd, H1⟩, H2, H3, H4, HX, Hcur⟩, Ho⟩ Hk
  iapply (wp_send_piece m ρ c d (l := l) hh h6 hn ho hod (congrArg SemLoc.dma hS) (congrArg SemLoc.dma hR)) $$ [Hsd Hcur Ho]
  · isplitr; · iexact HR
    isplitl [Hsd]; · iexact Hsd
    isplitl [Hcur]; · iexact Hcur
    iexact Ho
  iintro ⟨Hd, Hr, Ho⟩
  iapply Hk
  isplitr [Hr Ho]
  · isplitl [H1]; · iexact H1
    isplitl [H2]; · iexact H2
    isplitl [H3 Hd]
    · isplitl [Hd]; · iexact Hd
      iexact H3
    isplitl [H4]; · iexact H4
    iexact HX
  isplitl [Hr]; · iexact Hr
  iexact Ho

variable {sp sp' : Space} {s : Shape} {e : EltTy} {src : Memref sig .tc sp s e} {dst : Memref sig .tc sp' s e}
  {hsrc : src.view.WordExact} {hdst : dst.view.WordExact}

/-- Waiting for what comes in on an accumulating hop. -/
theorem st_wait_slot (X : sProp 𝕄) (hh : h < 3) (hR : sR = rcvS h q) (hN : dst.view.dmaCredit = N) (hl : ∀ p ∈ l, p.1 < 6 ∧ h < p.1)
    {α : Type} {Q : α → sProp 𝕄} {k : PUnit → Prog (TpuEff nD τ sig (Elt F) Λ₀ .tc) α} :
    iprop(recs m ρ ∗ Snt (F := F) c q X n h ∗ debt c (oweL c l))
      ⊢ iprop(((Got m ρ c q X n h ∗ debt c (oweL c l)) -∗ Wp c (k ⟨⟩) Q) -∗ Wp c (.op (.waitDma2 sR src dst hsrc hdst) k) Q) := by
  unfold Snt Got
  simp only [up_succ, dn_succ]
  iintro ⟨#HR, ⟨H1, ⟨Hrv, H2⟩, H3, H4, HX⟩, Ho⟩ Hk
  iapply (wp_wait_in m ρ c (l := l) (show h < 6 by omega) hR hN hl) $$ [Hrv Ho]
  · isplitr; · iexact HR
    isplitl [Hrv]; · iexact Hrv
    iexact Ho
  iintro ⟨Hz, Hp, Ho⟩
  iapply Hk
  isplitr [Ho]
  · isplitl [H1]; · iexact H1
    isplitl [H2]; · iexact H2
    isplitl [H3]; · iexact H3
    isplitl [H4]; · iexact H4
    isplitl [HX]; · iexact HX
    isplitl [Hz]; · iexact Hz
    iexact Hp
  iexact Ho

/-- Waiting for what comes in on a spreading hop: it is what is sent next. -/
theorem st_wait_piece (X : sProp 𝕄) (hh : 3 ≤ h) (h6 : h < 6) (hR : sR = rcvS h q) (hN : dst.view.dmaCredit = N) (hl : ∀ p ∈ l, p.1 < 6 ∧ h < p.1)
    {α : Type} {Q : α → sProp 𝕄} {k : PUnit → Prog (TpuEff nD τ sig (Elt F) Λ₀ .tc) α} :
    iprop(recs m ρ ∗ Snt (F := F) c q X n h ∗ debt c (oweL c l))
      ⊢ iprop(((Rdy m ρ c q X n (h + 1) ∗ debt c (oweL c l)) -∗ Wp c (k ⟨⟩) Q) -∗ Wp c (.op (.waitDma2 sR src dst hsrc hdst) k) Q) := by
  have h3 : ¬ h < 3 := by omega
  have hm : min (h + 1) 3 = 3 := by omega
  unfold Snt Rdy
  simp only [up_succ, dn_succ]
  iintro ⟨#HR, ⟨H1, ⟨Hrv, H2⟩, H3, H4, HX⟩, Ho⟩ Hk
  iapply (wp_wait_in m ρ c (l := l) h6 hR hN hl) $$ [Hrv Ho]
  · isplitr; · iexact HR
    isplitl [Hrv]; · iexact Hrv
    iexact Ho
  iintro ⟨Hz, Hp, Ho⟩
  iapply Hk
  isplitr [Ho]
  · isplitl [H1]; · iexact H1
    isplitl [H2]; · iexact H2
    isplitl [H3]; · iexact H3
    isplitl [H4 Hz]
    · isplitl [Hz]
      · unfold dR; rw [if_neg h3]
        isplitl [Hz]; · iexact Hz
        iempintro
      iexact H4
    isplitl [HX]; · iexact HX
    unfold rcvPay land cur; rw [if_neg h3, hm]
    iexact Hp
  iexact Ho

/-- Adding what came in to the device's own product: the sum is what is sent next. -/
theorem st_add (r : ℕ) (hh : h < 3) {o1 : Fin 2 → ℕ} {o2 : Fin 3 → ℕ} (h1 : o1 = pOff (blk q (h + 1) c) q)
    (h2 : o2 = sOff (4 * h + q.val)) {i1 i2} {pay : Vec F S512x512 .bf16 → Vec F S1x512x512 .bf16 → FVec F S512x512 .bf16} (hp : pay = k0_pay5)
    {l1 : aM.view.LoadsAt (Rect.unit (s := S2048x2048) o1 S512x512.size i1).toLoadRect}
    {l2 : bM.view.LoadsAt (Rect.unit (s := S12x512x512) o2 S1x512x512.size i2).toLoadRect}
    {l3 : aM.view.LoadsAt (Rect.unit (s := S2048x2048) o1 S512x512.size i1).toLoadRect}
    {hs : (aM.access (Rect.unit (s := S2048x2048) o1 S512x512.size i1)).Stores Finset.univ} {hm}
    {α : Type} {Q : α → sProp 𝕄} {kk : PUnit → Prog (TpuEff nD τ sig (Elt F) Λ₀ .tc) α} :
    iprop(Got m ρ c q (up (pc m ρ c q) (r + 1) h) n h)
      ⊢ iprop((Rdy m ρ c q (up (pc m ρ c q) r (h + 1)) n (h + 1) -∗ Wp c (kk ⟨⟩) Q)
          -∗ Wp c (.op (.load aM (Rect.unit (s := S2048x2048) o1 S512x512.size i1).toLoadRect l1) fun v =>
              .op (.load bM (Rect.unit (s := S12x512x512) o2 S1x512x512.size i2).toLoadRect l2) fun w =>
              .op (.load aM (Rect.unit (s := S2048x2048) o1 S512x512.size i1).toLoadRect l3) fun _ =>
              .op (.store aM (Rect.unit (s := S2048x2048) o1 S512x512.size i1) (pay v w) Finset.univ hs hm) kk) Q) := by
  have hc : mv q (h + 1) (blk q (h + 1) c) = c := by
    unfold blk; rw [mv_mv, show 3 * (h + 1) + (h + 1) = 4 * (h + 1) by omega, mv_four_mul]
  have hm : min (h + 1) 3 = h + 1 := by omega
  unfold Got Rdy rcvPay land
  simp only [up_succ, dn_succ]
  rw [if_pos hh]
  iintro ⟨H1, H2, H3, H4, ⟨Hpc, HX⟩, Hz, Hs, Hcar⟩ Hk
  iapply (wp_add m ρ c h (blk q (h + 1) c) q hc h1 h2 hp) $$ [Hpc Hs]
  · isplitl [Hpc]; · unfold pc; iexact Hpc
    iexact Hs
  iintro ⟨Ha, Hs⟩
  iapply Hk
  isplitl [H1]; · iexact H1
  isplitl [H2]; · iexact H2
  isplitl [H3]; · iexact H3
  isplitl [H4 Hz Hs]
  · isplitl [Hz Hs]
    · unfold dR; rw [if_pos hh]
      isplitl [Hz]; · iexact Hz
      iexact Hs
    iexact H4
  isplitl [HX]; · iexact HX
  unfold cur; rw [hm]
  isplitl [Ha]; · iexact Ha
  iexact Hcar

/-- Waiting for the copy out of hop `h`, the first not yet waited for. -/
def Out (c : Dev nD) (q : Fin 4) (n h : ℕ) : sProp 𝕄 := iprop(up (dS (F := F) c q) n h ∗ dn (dE m ρ c q) h)

theorem st_wait_out (h6 : h < 6) (hS : sS = sndS h q) (hN : dst.view.dmaCredit = N)
    {α : Type} {Q : α → sProp 𝕄} {k : PUnit → Prog (TpuEff nD τ sig (Elt F) Λ₀ .tc) α} :
    iprop(recs m ρ ∗ Out m ρ c q (n + 1) h ∗ debt c 0)
      ⊢ iprop(((Out m ρ c q n (h + 1) ∗ debt c 0) -∗ Wp c (k ⟨⟩) Q) -∗ Wp c (.op (.waitDma2 sS src dst hsrc hdst) k) Q) := by
  unfold Out
  simp only [up_succ, dn_succ]
  iintro ⟨#HR, ⟨⟨Hd, H1⟩, H2⟩, Ho⟩ Hk
  iapply (wp_wait_out m ρ c h6 hS hN) $$ [Hd Ho]
  · isplitr; · iexact HR
    isplitl [Hd]; · iexact Hd
    iexact Ho
  iintro ⟨He, Ho⟩
  iapply Hk
  isplitr [Ho]
  · isplitl [H1]; · iexact H1
    isplitl [He]; · iexact He
    iexact H2
  iexact Ho

end Ops

/-! ## Rows and pieces -/

omit [FloatOps F] in
/-- A row block is its four pieces. -/
theorem accRow_pieces (c : Dev nD) (k : Fin 4) (sh : PosShare TreeShare) (V : S2048x2048.Idx → Elt F .bf16) :
    accRow c k sh V = iprop(acc c k 0 sh V ∗ acc c k 1 sh V ∗ acc c k 2 sh V ∗ acc c k 3 sh V) := by
  have hu : (rSet k : Finset S2048x2048.Idx) = Finset.univ.biUnion fun q => pSet k q := by
    ext i; simp [mem_rSet, mem_pSet]
  have hd : ∀ q q' : Fin 4, q ≠ q' → Disjoint (pSet k q) (pSet k q') := fun q q' hq =>
    Finset.disjoint_left.mpr fun i h h' => hq ((mem_pSet.mp h).2.symm.trans (mem_pSet.mp h').2)
  unfold accRow acc
  rw [hu]
  refine (pointsTo_biUnion (sig := sig) (Ix := Unit) (Val := Elt F) (Name := ℕ) (U := UU) (Lvl := ℕ) (ℓ := (c : Thread nD τ).loc cc0_scratch0) Finset.univ (fun q => pSet k q)
    (fun q _ q' _ hq => hd q q' hq)).trans ?_
  rw [bigSep_univ_eq_bigSepL [0, 1, 2, 3] (by decide) (by decide), bigSepL_cons_cons, bigSepL_cons_cons, bigSepL_cons_cons, bigSepL_singleton]
  rfl

/-- The halves that stay of a finished row block's four pieces are that half of the row block. -/
theorem row_right (c : Dev nD) (k : Fin 4) (h0 h1 h2 h3 : ℕ) (e : blk 0 h0 c = k ∧ blk 1 h1 c = k ∧ blk 2 h2 c = k ∧ blk 3 h3 c = k) :
    iprop(rh m ρ c 0 h0 ∗ rh m ρ c 1 h1 ∗ rh m ρ c 2 h2 ∗ rh m ρ c 3 h3) ⊢ accRow c k fullShare.right (T m ρ 3) := by
  unfold rh; rw [e.1, e.2.1, e.2.2.1, e.2.2.2, accRow_pieces]

/-- After the last landing: the last row block is there whole, and all that is left are the waits for the copies out. -/
theorem row_last (c : Dev nD) (X0 X1 X2 X3 : sProp 𝕄) :
    iprop(Rdy m ρ c 0 X0 0 6 ∗ Rdy m ρ c 1 X1 0 6 ∗ Rdy m ρ c 2 X2 0 6 ∗ Rdy m ρ c 3 X3 0 6)
      ⊢ iprop(accRow c (mv 0 2 c) fullShare (T m ρ 3) ∗ (Out m ρ c 0 6 0 ∗ dn (dR (F := F) c 0) 6) ∗ (Out m ρ c 1 6 0 ∗ dn (dR (F := F) c 1) 6)
          ∗ (Out m ρ c 2 6 0 ∗ dn (dR (F := F) c 2) 6) ∗ (Out m ρ c 3 6 0 ∗ dn (dR (F := F) c 3) 6)) := by
  have one : ∀ (q : Fin 4) (X : sProp 𝕄), Rdy m ρ c q X 0 6
      ⊢ iprop(acc c (mv 0 2 c) q fullShare (T m ρ 3) ∗ (Out m ρ c q 6 0 ∗ dn (dR (F := F) c q) 6)) := by
    intro q X
    have e : blk q 6 c = mv 0 2 c := by revert q c; decide
    unfold Rdy cur Out; rw [e]
    simp only [up_succ, dn_succ]
    iintro ⟨-, -, ⟨H5, H4, H3, H2, H1, H0, -⟩, Hd, -, Ha, -⟩
    isplitl [Ha]; · iexact Ha
    isplitr [Hd]
    · isplitl [H0 H1 H2 H3 H4 H5]
      · isplitl [H0]; · iexact H0
        isplitl [H1]; · iexact H1
        isplitl [H2]; · iexact H2
        isplitl [H3]; · iexact H3
        isplitl [H4]; · iexact H4
        isplitl [H5]; · iexact H5
        iempintro
      iempintro
    iexact Hd
  rw [accRow_pieces]
  iintro ⟨H0, H1, H2, H3⟩
  ihave H0 := (one 0 X0) $$ H0
  ihave H1 := (one 1 X1) $$ H1
  ihave H2 := (one 2 X2) $$ H2
  ihave H3 := (one 3 X3) $$ H3
  icases H0 with ⟨A0, H0⟩
  icases H1 with ⟨A1, H1⟩
  icases H2 with ⟨A2, H2⟩
  icases H3 with ⟨A3, H3⟩
  isplitl [A0 A1 A2 A3]
  · isplitl [A0]; · iexact A0
    isplitl [A1]; · iexact A1
    isplitl [A2]; · iexact A2
    iexact A3
  isplitl [H0]; · iexact H0
  isplitl [H1]; · iexact H1
  isplitl [H2]; · iexact H2
  iexact H3

/-- What a device holds of a column block at launch. -/
def Ini (c : Dev nD) (q : Fin 4) : sProp 𝕄 := iprop(up (sd₀ (F := F) c q) 6 0 ∗ up (rv (F := F) c q) 6 0)

/-- With the neighbour's slots and its own product the device is ready to send. -/
theorem ini_rdy (c : Dev nD) (q : Fin 4) :
    iprop(Ini (F := F) c q ∗ slots (F := F) (mv q 1 c) q ∗ acc c (mv 0 0 c) q fullShare (P m ρ c)) ⊢ Rdy m ρ c q iprop(emp) 6 0 := by
  have e0 : mv 0 0 c = blk q 0 c := by rw [blk_zero, mv_zero]
  have e : acc c (mv 0 0 c) q fullShare (P m ρ c) = acc c (blk q 0 c) q fullShare (T m ρ 0) := by
    rw [e0]
    exact acc_congr c _ q fullShare fun i hi => by
      have hk := (mem_pSet.mp hi).1
      rw [blk_zero] at hk
      show P m ρ c i = P m ρ (kOf i) i
      rw [hk]
  rw [e]
  unfold Ini Rdy slots cur
  simp only [up_succ, dn_succ]
  unfold sd
  iintro ⟨⟨⟨H0, H1, H2, H3, H4, H5, -⟩, Hrv⟩, ⟨S0, S1, S2⟩, Ha⟩
  isplitr [Hrv Ha]
  · isplitl [H0 S0]
    · isplitl [H0]; · iexact H0
      rw [if_pos (by decide)]; iexact S0
    isplitl [H1 S1]
    · isplitl [H1]; · iexact H1
      rw [if_pos (by decide)]; iexact S1
    isplitl [H2 S2]
    · isplitl [H2]; · iexact H2
      rw [if_pos (by decide)]; iexact S2
    isplitl [H3]
    · isplitl [H3]; · iexact H3
      rw [if_neg (by decide)]; iempintro
    isplitl [H4]
    · isplitl [H4]; · iexact H4
      rw [if_neg (by decide)]; iempintro
    isplitl [H5]
    · isplitl [H5]; · iexact H5
      rw [if_neg (by decide)]; iempintro
    iempintro
  isplitl [Hrv]; · iexact Hrv
  isplitr; · iempintro
  isplitr; · iempintro
  isplitr; · iempintro
  isplitl [Ha]; · iexact Ha
  unfold carry car; iempintro

/-- The device's own product of the three other row blocks, sorted by column block. -/
theorem rows_sorted (c : Dev nD) :
    iprop(accRow c (mv 0 1 c) fullShare (P m ρ c) ∗ accRow c (mv 0 2 c) fullShare (P m ρ c) ∗ accRow c (mv 0 3 c) fullShare (P m ρ c))
      ⊢ iprop(up (pc m ρ c 0) 3 0 ∗ up (pc m ρ c 1) 3 0 ∗ up (pc m ρ c 2) 3 0 ∗ up (pc m ρ c 3) 3 0) := by
  have e : ∀ c : Dev nD, (blk 0 1 c = mv 0 3 c ∧ blk 0 2 c = mv 0 2 c ∧ blk 0 3 c = mv 0 1 c) ∧ (blk 1 1 c = mv 0 3 c ∧ blk 1 2 c = mv 0 2 c ∧ blk 1 3 c = mv 0 1 c)
      ∧ (blk 2 1 c = mv 0 1 c ∧ blk 2 2 c = mv 0 2 c ∧ blk 2 3 c = mv 0 3 c) ∧ (blk 3 1 c = mv 0 1 c ∧ blk 3 2 c = mv 0 2 c ∧ blk 3 3 c = mv 0 3 c) := by decide
  obtain ⟨⟨a1, a2, a3⟩, ⟨b1, b2, b3⟩, ⟨c1, c2, c3⟩, d1, d2, d3⟩ := e c
  simp only [accRow_pieces, up_succ]
  unfold pc
  simp only [Nat.zero_add, Nat.reduceAdd, a1, a2, a3, b1, b2, b3, c1, c2, c3, d1, d2, d3]
  iintro ⟨⟨A0, A1, A2, A3⟩, ⟨B0, B1, B2, B3⟩, C0, C1, C2, C3⟩
  isplitl [A0 B0 C0]
  · isplitl [C0]; · iexact C0
    isplitl [B0]; · iexact B0
    isplitl [A0]; · iexact A0
    iempintro
  isplitl [A1 B1 C1]
  · isplitl [C1]; · iexact C1
    isplitl [B1]; · iexact B1
    isplitl [A1]; · iexact A1
    iempintro
  isplitl [A2 B2 C2]
  · isplitl [A2]; · iexact A2
    isplitl [B2]; · iexact B2
    isplitl [C2]; · iexact C2
    iempintro
  isplitl [A3]; · iexact A3
  isplitl [B3]; · iexact B3
  isplitl [C3]; · iexact C3
  iempintro

end Cert.AllReduce

end
-- ==== Proof.Parts.lean ====
/-
  The kernel's parts, in the order of the program, each between the states its column blocks are in before and after it.
  Every part is a few of the steps already proved; only the place in the schedule differs.
-/
module

public import proofs.«01_k».proof.Proof.Chain

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The copies not yet sent after the first `k`. -/
def tl (k : ℕ) : List (ℕ × Fin 4) := sends.drop k

/-- The semaphore a kernel takes out of an array of twelve. -/
abbrev semP (a : DmaSems sig S12) (n : ℕ) (h : ∀ i, (![n] : Fin 1 → ℕ) i + S1.size i ≤ S12.size i) : DmaSem sig :=
  ((a.slice (Rect.unit (s := S12) ![n] S1.size h)).squeeze S_ squeezes_S1_S_).sem

/-- Part 1: the signals to both neighbours, the product of the device's own row block, the wait for both neighbours. -/
theorem part1 (c : Dev nD) :
    iprop(recs m ρ ∗ dutyTok ER (barCell (mv 2 1 c)) 0 true ∗ barPay (F := F) (mv 2 1 c) true ∗ dutyTok ER (barCell (mv 0 1 c)) 0 false ∗ barPay (F := F) (mv 0 1 c) false
        ∗ xo m ρ c ∗ wo m ρ c ∗ accAny (F := F) c (mv 0 0 c) ∗ atPos ER (barCell c) 0 ∅ 0 ∗ cred (tallyAt (barCell c) () 2) ∗ debt c (O₀ c))
      ⊢ Wp c (k0_part1 xM (Memref.isWhole_whole _) wM (Memref.isWhole_whole _) oM (Memref.isWhole_whole _) aM (Memref.isWhole_whole _) bM (Memref.isWhole_whole _) cc0_scratch2 cc0_scratch3 cc0_scratch4 cc0_scratch5) (fun r => iprop(⌜r.1 = c⌝ ∗ semVal (barCell c) 0 ∗ barPay (F := F) c false ∗ barPay (F := F) c true
          ∗ xo m ρ c ∗ wo m ρ c ∗ accRow c (mv 0 0 c) fullShare (P m ρ c) ∗ debt c (oweL c (tl 0)))) := by
  rw [k0_part1_eq_skeleton]; unfold k0_part1_skel
  simp only [semSignalWord, semWaitWord, Prog.lift, Prog.bind_op, Prog.bind_ret, Prog.pure_eq_ret]
  iintro ⟨#HR, T1, P1, T2, P2, Hx, Hw, A0, Hat, Hcr, Ho⟩
  unfold Wp
  simp only [wp_deviceId]
  unfold O₀
  iapply (wp_signal_bar m ρ c (mv 2 1 c) _ (Fin.ext ((k0_dev1_eq c).trans (by revert c; decide))) true (O₁ c) rfl (by decide)) $$ [T1 P1 Ho]
  · isplitr; · iexact HR
    isplitl [T1]; · iexact T1
    isplitl [P1]; · iexact P1
    iexact Ho
  iintro Ho
  unfold O₁; rw [show sends = tl 0 from rfl]
  iapply (wp_signal_bar m ρ c (mv 0 1 c) _ (Fin.ext ((k0_dev2_eq c).trans (by revert c; decide))) false (oweL c (tl 0)) rfl (by decide)) $$ [T2 P2 Ho]
  · isplitr; · iexact HR
    isplitl [T2]; · iexact T2
    isplitl [P2]; · iexact P2
    iexact Ho
  iintro Ho
  iapply (wp_gemm m ρ c (mv 0 0 c) ((k0_off1_eq c 0).trans (by revert c; decide)) ((k0_off2_eq c 0).trans (by revert c; decide)) rfl) $$ [Hx Hw A0]
  · isplitl [Hx]; · iexact Hx
    isplitl [Hw]; · iexact Hw
    iexact A0
  iintro ⟨Hx, Hw, A0⟩
  iapply (wp_wait_bar m ρ c (tl 0) (by decide) rfl (by decide)) $$ [Hat Hcr Ho]
  · isplitr; · iexact HR
    isplitl [Hat]; · iexact Hat
    isplitl [Hcr]; · iexact Hcr
    iexact Ho
  iintro ⟨Hz, P1, P2, Ho⟩
  unfold Wp; rw [wp_ret]; imodintro
  isplitr; · ipureintro; rfl
  isplitl [Hz]; · iexact Hz
  isplitl [P1]; · iexact P1
  isplitl [P2]; · iexact P2
  isplitl [Hx]; · iexact Hx
  isplitl [Hw]; · iexact Hw
  isplitl [A0]; · iexact A0
  iexact Ho

/-- Part 2: send hop 0 of column block 0; send hop 0 of column block 1. -/
theorem part2 (c : Dev nD) (v2 v4 v7 v28 c512_i32_17 : BitVec 32) :
    iprop(recs m ρ ∗ Rdy m ρ c 0 iprop(emp) 6 0 ∗ Rdy m ρ c 1 iprop(emp) 6 0 ∗ debt c (oweL c (tl 0)))
      ⊢ Wp c (k0_part2 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v28 c512_i32_17) (fun _ => iprop(Snt (F := F) c 0 iprop(emp) 5 0 ∗ Snt (F := F) c 1 iprop(emp) 5 0 ∗ debt c (oweL c (tl 2)))) := by
  rw [k0_part2_eq_skeleton]; unfold k0_part2_skel
  simp only [Prog.lift, Prog.bind_op, Prog.bind_ret, Prog.pure_eq_ret]
  iintro ⟨#HR, H0, H1, Ho⟩
  rw [show tl 0 = (0, 0) :: tl 1 from rfl]
  iapply (st_send_slot m ρ c 0 5 0 (tl 1) iprop(emp) (by decide) (Fin.ext ((k0_dev3_eq c).trans (by revert c; decide))) ((k0_off3_eq c 0).trans (by revert c; decide)) (rfl : _ = sOff _) (rfl : semP cc0_scratch2 0 _ = sndS 0 0) (rfl : semP cc0_scratch3 0 _ = rcvS 0 0)) $$ [H0 Ho]
  · isplitr; · iexact HR
    isplitl [H0]; · iexact H0
    iexact Ho
  iintro ⟨H0, Ho⟩
  rw [show tl 1 = (0, 1) :: tl 2 from rfl]
  iapply (st_send_slot m ρ c 1 5 0 (tl 2) iprop(emp) (by decide) (Fin.ext ((k0_dev4_eq c).trans (by revert c; decide))) ((k0_off4_eq c 0).trans (by revert c; decide)) (rfl : _ = sOff _) (rfl : semP cc0_scratch2 1 _ = sndS 0 1) (rfl : semP cc0_scratch3 1 _ = rcvS 0 1)) $$ [H1 Ho]
  · isplitr; · iexact HR
    isplitl [H1]; · iexact H1
    iexact Ho
  iintro ⟨H1, Ho⟩
  unfold Wp; rw [wp_ret]; imodintro
  isplitl [H0]; · iexact H0
  isplitl [H1]; · iexact H1
  iexact Ho

/-- Part 3: send hop 0 of column block 2; send hop 0 of column block 3; product of row block c + 1. -/
theorem part3 (c : Dev nD) (v2 v7 : BitVec 32) :
    iprop(recs m ρ ∗ Rdy m ρ c 2 iprop(emp) 6 0 ∗ Rdy m ρ c 3 iprop(emp) 6 0 ∗ xo m ρ c ∗ wo m ρ c ∗ accAny (F := F) c (mv 0 1 c) ∗ debt c (oweL c (tl 2)))
      ⊢ Wp c (k0_part3 xM (Memref.isWhole_whole _) wM (Memref.isWhole_whole _) oM (Memref.isWhole_whole _) aM (Memref.isWhole_whole _) bM (Memref.isWhole_whole _) cc0_scratch2 cc0_scratch3 cc0_scratch4 cc0_scratch5 c v2 v7) (fun _ => iprop(Snt (F := F) c 2 iprop(emp) 5 0 ∗ Snt (F := F) c 3 iprop(emp) 5 0 ∗ xo m ρ c ∗ wo m ρ c ∗ accRow c (mv 0 1 c) fullShare (P m ρ c) ∗ debt c (oweL c (tl 4)))) := by
  rw [k0_part3_eq_skeleton]; unfold k0_part3_skel
  simp only [Prog.lift, Prog.bind_op, Prog.bind_ret, Prog.pure_eq_ret]
  iintro ⟨#HR, H2, H3, Hx, Hw, A1, Ho⟩
  rw [show tl 2 = (0, 2) :: tl 3 from rfl]
  iapply (st_send_slot m ρ c 2 5 0 (tl 3) iprop(emp) (by decide) (Fin.ext ((k0_dev5_eq c).trans (by revert c; decide))) ((k0_off5_eq c 0).trans (by revert c; decide)) (rfl : _ = sOff _) (rfl : semP cc0_scratch2 2 _ = sndS 0 2) (rfl : semP cc0_scratch3 2 _ = rcvS 0 2)) $$ [H2 Ho]
  · isplitr; · iexact HR
    isplitl [H2]; · iexact H2
    iexact Ho
  iintro ⟨H2, Ho⟩
  rw [show tl 3 = (0, 3) :: tl 4 from rfl]
  iapply (st_send_slot m ρ c 3 5 0 (tl 4) iprop(emp) (by decide) (Fin.ext ((k0_dev6_eq c).trans (by revert c; decide))) ((k0_off6_eq c 0).trans (by revert c; decide)) (rfl : _ = sOff _) (rfl : semP cc0_scratch2 3 _ = sndS 0 3) (rfl : semP cc0_scratch3 3 _ = rcvS 0 3)) $$ [H3 Ho]
  · isplitr; · iexact HR
    isplitl [H3]; · iexact H3
    iexact Ho
  iintro ⟨H3, Ho⟩
  iapply (wp_gemm m ρ c (mv 0 1 c) ((k0_off1_eq c 1).trans (by revert c; decide)) ((k0_off2_eq c 1).trans (by revert c; decide)) rfl) $$ [Hx Hw A1]
  · isplitl [Hx]; · iexact Hx
    isplitl [Hw]; · iexact Hw
    iexact A1
  iintro ⟨Hx, Hw, A1⟩
  unfold Wp; rw [wp_ret]; imodintro
  isplitl [H2]; · iexact H2
  isplitl [H3]; · iexact H3
  isplitl [Hx]; · iexact Hx
  isplitl [Hw]; · iexact Hw
  isplitl [A1]; · iexact A1
  iexact Ho

/-- Part 4: product of row block c + 3; product of row block c + 2; await hop 0 of 0. -/
theorem part4 (c : Dev nD) (v2 v4 v91 : BitVec 32) :
    iprop(recs m ρ ∗ Snt (F := F) c 0 iprop(emp) 5 0 ∗ xo m ρ c ∗ wo m ρ c ∗ accAny (F := F) c (mv 0 3 c) ∗ accAny (F := F) c (mv 0 2 c) ∗ debt c (oweL c (tl 4)))
      ⊢ Wp c (k0_part4 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v91) (fun _ => iprop(Got m ρ c 0 iprop(emp) 5 0 ∗ xo m ρ c ∗ wo m ρ c ∗ accRow c (mv 0 3 c) fullShare (P m ρ c) ∗ accRow c (mv 0 2 c) fullShare (P m ρ c) ∗ debt c (oweL c (tl 4)))) := by
  rw [k0_part4_eq_skeleton]; unfold k0_part4_skel
  simp only [Prog.lift, Prog.bind_op, Prog.bind_ret, Prog.pure_eq_ret]
  iintro ⟨#HR, H0, Hx, Hw, A3, A2, Ho⟩
  iapply (wp_gemm m ρ c (mv 0 3 c) ((k0_off1_eq c 3).trans (by revert c; decide)) ((k0_off2_eq c 3).trans (by revert c; decide)) rfl) $$ [Hx Hw A3]
  · isplitl [Hx]; · iexact Hx
    isplitl [Hw]; · iexact Hw
    iexact A3
  iintro ⟨Hx, Hw, A3⟩
  iapply (wp_gemm m ρ c (mv 0 2 c) ((k0_off1_eq c 2).trans (by revert c; decide)) ((k0_off2_eq c 2).trans (by revert c; decide)) rfl) $$ [Hx Hw A2]
  · isplitl [Hx]; · iexact Hx
    isplitl [Hw]; · iexact Hw
    iexact A2
  iintro ⟨Hx, Hw, A2⟩
  iapply (st_wait_slot m ρ c 0 5 0 (tl 4) iprop(emp) (by decide) (rfl : semP cc0_scratch3 0 _ = rcvS 0 0) (N_slot _ _) (by decide)) $$ [H0 Ho]
  · isplitr; · iexact HR
    isplitl [H0]; · iexact H0
    iexact Ho
  iintro ⟨H0, Ho⟩
  unfold Wp; rw [wp_ret]; imodintro
  isplitl [H0]; · iexact H0
  isplitl [Hx]; · iexact Hx
  isplitl [Hw]; · iexact Hw
  isplitl [A3]; · iexact A3
  isplitl [A2]; · iexact A2
  iexact Ho

/-- Part 5: add to 0; send hop 1 of column block 0; await hop 0 of 2. -/
theorem part5 (c : Dev nD) (v2 v4 v7 v125 : BitVec 32) :
    iprop(recs m ρ ∗ Got m ρ c 0 (up (pc m ρ c 0) 3 0) 5 0 ∗ Snt (F := F) c 2 (up (pc m ρ c 2) 3 0) 5 0 ∗ debt c (oweL c (tl 4)))
      ⊢ Wp c (k0_part5 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v125) (fun _ => iprop(Snt (F := F) c 0 (up (pc m ρ c 0) 2 1) 4 1 ∗ Got m ρ c 2 (up (pc m ρ c 2) 3 0) 5 0 ∗ debt c (oweL c (tl 5)))) := by
  rw [k0_part5_eq_skeleton]; unfold k0_part5_skel
  simp only [Prog.lift, Prog.bind_op, Prog.bind_ret, Prog.pure_eq_ret]
  iintro ⟨#HR, H0, H2, Ho⟩
  iapply (st_add m ρ c 0 5 0 2 (by decide) ((k0_off7_eq c 2).trans (by revert c; decide)) rfl rfl) $$ [H0]
  · iexact H0
  iintro H0
  rw [show tl 4 = (1, 0) :: tl 5 from rfl]
  iapply (st_send_slot m ρ c 0 4 1 (tl 5) (up (pc m ρ c 0) 2 1) (by decide) (Fin.ext ((k0_dev7_eq c).trans (by revert c; decide))) ((k0_off3_eq c 3).trans (by revert c; decide)) (rfl : _ = sOff _) (rfl : semP cc0_scratch2 4 _ = sndS 1 0) (rfl : semP cc0_scratch3 4 _ = rcvS 1 0)) $$ [H0 Ho]
  · isplitr; · iexact HR
    isplitl [H0]; · iexact H0
    iexact Ho
  iintro ⟨H0, Ho⟩
  iapply (st_wait_slot m ρ c 2 5 0 (tl 5) (up (pc m ρ c 2) 3 0) (by decide) (rfl : semP cc0_scratch3 2 _ = rcvS 0 2) (N_slot _ _) (by decide)) $$ [H2 Ho]
  · isplitr; · iexact HR
    isplitl [H2]; · iexact H2
    iexact Ho
  iintro ⟨H2, Ho⟩
  unfold Wp; rw [wp_ret]; imodintro
  isplitl [H0]; · iexact H0
  isplitl [H2]; · iexact H2
  iexact Ho

/-- Part 6: add to 2; send hop 1 of column block 2; await hop 0 of 1. -/
theorem part6 (c : Dev nD) (v2 v4 v7 v155 c4_i32_116 : BitVec 32) :
    iprop(recs m ρ ∗ Got m ρ c 2 (up (pc m ρ c 2) 3 0) 5 0 ∗ Snt (F := F) c 1 (up (pc m ρ c 1) 3 0) 5 0 ∗ debt c (oweL c (tl 5)))
      ⊢ Wp c (k0_part6 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v155 c4_i32_116) (fun _ => iprop(Snt (F := F) c 2 (up (pc m ρ c 2) 2 1) 4 1 ∗ Got m ρ c 1 (up (pc m ρ c 1) 3 0) 5 0 ∗ debt c (oweL c (tl 6)))) := by
  rw [k0_part6_eq_skeleton]; unfold k0_part6_skel
  simp only [Prog.lift, Prog.bind_op, Prog.bind_ret, Prog.pure_eq_ret]
  iintro ⟨#HR, H2, H1, Ho⟩
  iapply (st_add m ρ c 2 5 0 2 (by decide) ((k0_off8_eq c 0).trans (by revert c; decide)) rfl rfl) $$ [H2]
  · iexact H2
  iintro H2
  rw [show tl 5 = (1, 2) :: tl 6 from rfl]
  iapply (st_send_slot m ρ c 2 4 1 (tl 6) (up (pc m ρ c 2) 2 1) (by decide) (Fin.ext ((k0_dev8_eq c).trans (by revert c; decide))) ((k0_off5_eq c 1).trans (by revert c; decide)) (rfl : _ = sOff _) (rfl : semP cc0_scratch2 6 _ = sndS 1 2) (rfl : semP cc0_scratch3 6 _ = rcvS 1 2)) $$ [H2 Ho]
  · isplitr; · iexact HR
    isplitl [H2]; · iexact H2
    iexact Ho
  iintro ⟨H2, Ho⟩
  iapply (st_wait_slot m ρ c 1 5 0 (tl 6) (up (pc m ρ c 1) 3 0) (by decide) (rfl : semP cc0_scratch3 1 _ = rcvS 0 1) (N_slot _ _) (by decide)) $$ [H1 Ho]
  · isplitr; · iexact HR
    isplitl [H1]; · iexact H1
    iexact Ho
  iintro ⟨H1, Ho⟩
  unfold Wp; rw [wp_ret]; imodintro
  isplitl [H2]; · iexact H2
  isplitl [H1]; · iexact H1
  iexact Ho

/-- Part 7: add to 1; send hop 1 of column block 1; await hop 0 of 3. -/
theorem part7 (c : Dev nD) (v2 v4 v7 v186 : BitVec 32) :
    iprop(recs m ρ ∗ Got m ρ c 1 (up (pc m ρ c 1) 3 0) 5 0 ∗ Snt (F := F) c 3 (up (pc m ρ c 3) 3 0) 5 0 ∗ debt c (oweL c (tl 6)))
      ⊢ Wp c (k0_part7 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v186) (fun _ => iprop(Snt (F := F) c 1 (up (pc m ρ c 1) 2 1) 4 1 ∗ Got m ρ c 3 (up (pc m ρ c 3) 3 0) 5 0 ∗ debt c (oweL c (tl 7)))) := by
  rw [k0_part7_eq_skeleton]; unfold k0_part7_skel
  simp only [Prog.lift, Prog.bind_op, Prog.bind_ret, Prog.pure_eq_ret]
  iintro ⟨#HR, H1, H3, Ho⟩
  iapply (st_add m ρ c 1 5 0 2 (by decide) ((k0_off9_eq c 2).trans (by revert c; decide)) rfl rfl) $$ [H1]
  · iexact H1
  iintro H1
  rw [show tl 6 = (1, 1) :: tl 7 from rfl]
  iapply (st_send_slot m ρ c 1 4 1 (tl 7) (up (pc m ρ c 1) 2 1) (by decide) (Fin.ext ((k0_dev9_eq c).trans (by revert c; decide))) ((k0_off4_eq c 3).trans (by revert c; decide)) (rfl : _ = sOff _) (rfl : semP cc0_scratch2 5 _ = sndS 1 1) (rfl : semP cc0_scratch3 5 _ = rcvS 1 1)) $$ [H1 Ho]
  · isplitr; · iexact HR
    isplitl [H1]; · iexact H1
    iexact Ho
  iintro ⟨H1, Ho⟩
  iapply (st_wait_slot m ρ c 3 5 0 (tl 7) (up (pc m ρ c 3) 3 0) (by decide) (rfl : semP cc0_scratch3 3 _ = rcvS 0 3) (N_slot _ _) (by decide)) $$ [H3 Ho]
  · isplitr; · iexact HR
    isplitl [H3]; · iexact H3
    iexact Ho
  iintro ⟨H3, Ho⟩
  unfold Wp; rw [wp_ret]; imodintro
  isplitl [H1]; · iexact H1
  isplitl [H3]; · iexact H3
  iexact Ho

/-- Part 8: add to 3; send hop 1 of column block 3; await hop 1 of 0. -/
theorem part8 (c : Dev nD) (v2 v4 v7 c1_i32_163 : BitVec 32) :
    iprop(recs m ρ ∗ Got m ρ c 3 (up (pc m ρ c 3) 3 0) 5 0 ∗ Snt (F := F) c 0 (up (pc m ρ c 0) 2 1) 4 1 ∗ debt c (oweL c (tl 7)))
      ⊢ Wp c (k0_part8 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 c1_i32_163) (fun _ => iprop(Snt (F := F) c 3 (up (pc m ρ c 3) 2 1) 4 1 ∗ Got m ρ c 0 (up (pc m ρ c 0) 2 1) 4 1 ∗ debt c (oweL c (tl 8)))) := by
  rw [k0_part8_eq_skeleton]; unfold k0_part8_skel
  simp only [Prog.lift, Prog.bind_op, Prog.bind_ret, Prog.pure_eq_ret]
  iintro ⟨#HR, H3, H0, Ho⟩
  iapply (st_add m ρ c 3 5 0 2 (by decide) ((k0_off10_eq c 0).trans (by revert c; decide)) rfl rfl) $$ [H3]
  · iexact H3
  iintro H3
  rw [show tl 7 = (1, 3) :: tl 8 from rfl]
  iapply (st_send_slot m ρ c 3 4 1 (tl 8) (up (pc m ρ c 3) 2 1) (by decide) (Fin.ext ((k0_dev10_eq c).trans (by revert c; decide))) ((k0_off6_eq c 1).trans (by revert c; decide)) (rfl : _ = sOff _) (rfl : semP cc0_scratch2 7 _ = sndS 1 3) (rfl : semP cc0_scratch3 7 _ = rcvS 1 3)) $$ [H3 Ho]
  · isplitr; · iexact HR
    isplitl [H3]; · iexact H3
    iexact Ho
  iintro ⟨H3, Ho⟩
  iapply (st_wait_slot m ρ c 0 4 1 (tl 8) (up (pc m ρ c 0) 2 1) (by decide) (rfl : semP cc0_scratch3 4 _ = rcvS 1 0) (N_slot _ _) (by decide)) $$ [H0 Ho]
  · isplitr; · iexact HR
    isplitl [H0]; · iexact H0
    iexact Ho
  iintro ⟨H0, Ho⟩
  unfold Wp; rw [wp_ret]; imodintro
  isplitl [H3]; · iexact H3
  isplitl [H0]; · iexact H0
  iexact Ho

/-- Part 9: add to 0; send hop 2 of column block 0. -/
theorem part9 (c : Dev nD) (v2 v4 v7 : BitVec 32) :
    iprop(recs m ρ ∗ Got m ρ c 0 (up (pc m ρ c 0) 2 1) 4 1 ∗ debt c (oweL c (tl 8)))
      ⊢ Wp c (k0_part9 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 0 (up (pc m ρ c 0) 1 2) 3 2 ∗ debt c (oweL c (tl 9)))) := by
  rw [k0_part9_eq_skeleton]; unfold k0_part9_skel
  simp only [Prog.lift, Prog.bind_op, Prog.bind_ret, Prog.pure_eq_ret]
  iintro ⟨#HR, H0, Ho⟩
  iapply (st_add m ρ c 0 4 1 1 (by decide) ((k0_off7_eq c 1).trans (by revert c; decide)) rfl rfl) $$ [H0]
  · iexact H0
  iintro H0
  rw [show tl 8 = (2, 0) :: tl 9 from rfl]
  iapply (st_send_slot m ρ c 0 3 2 (tl 9) (up (pc m ρ c 0) 1 2) (by decide) (Fin.ext ((k0_dev11_eq c).trans (by revert c; decide))) ((k0_off3_eq c 2).trans (by revert c; decide)) (rfl : _ = sOff _) (rfl : semP cc0_scratch2 8 _ = sndS 2 0) (rfl : semP cc0_scratch3 8 _ = rcvS 2 0)) $$ [H0 Ho]
  · isplitr; · iexact HR
    isplitl [H0]; · iexact H0
    iexact Ho
  iintro ⟨H0, Ho⟩
  unfold Wp; rw [wp_ret]; imodintro
  isplitl [H0]; · iexact H0
  iexact Ho

/-- Part 10: await hop 1 of 2; add to 2; send hop 2 of column block 2. -/
theorem part10 (c : Dev nD) (v2 v4 v7 : BitVec 32) :
    iprop(recs m ρ ∗ Snt (F := F) c 2 (up (pc m ρ c 2) 2 1) 4 1 ∗ debt c (oweL c (tl 9)))
      ⊢ Wp c (k0_part10 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 2 (up (pc m ρ c 2) 1 2) 3 2 ∗ debt c (oweL c (tl 10)))) := by
  rw [k0_part10_eq_skeleton]; unfold k0_part10_skel
  simp only [Prog.lift, Prog.bind_op, Prog.bind_ret, Prog.pure_eq_ret]
  iintro ⟨#HR, H2, Ho⟩
  iapply (st_wait_slot m ρ c 2 4 1 (tl 9) (up (pc m ρ c 2) 2 1) (by decide) (rfl : semP cc0_scratch3 6 _ = rcvS 1 2) (N_slot _ _) (by decide)) $$ [H2 Ho]
  · isplitr; · iexact HR
    isplitl [H2]; · iexact H2
    iexact Ho
  iintro ⟨H2, Ho⟩
  iapply (st_add m ρ c 2 4 1 1 (by decide) ((k0_off8_eq c 1).trans (by revert c; decide)) rfl rfl) $$ [H2]
  · iexact H2
  iintro H2
  rw [show tl 9 = (2, 2) :: tl 10 from rfl]
  iapply (st_send_slot m ρ c 2 3 2 (tl 10) (up (pc m ρ c 2) 1 2) (by decide) (Fin.ext ((k0_dev12_eq c).trans (by revert c; decide))) ((k0_off5_eq c 2).trans (by revert c; decide)) (rfl : _ = sOff _) (rfl : semP cc0_scratch2 10 _ = sndS 2 2) (rfl : semP cc0_scratch3 10 _ = rcvS 2 2)) $$ [H2 Ho]
  · isplitr; · iexact HR
    isplitl [H2]; · iexact H2
    iexact Ho
  iintro ⟨H2, Ho⟩
  unfold Wp; rw [wp_ret]; imodintro
  isplitl [H2]; · iexact H2
  iexact Ho

/-- Part 11: await hop 1 of 1; add to 1; send hop 2 of column block 1. -/
theorem part11 (c : Dev nD) (v2 v4 v7 : BitVec 32) :
    iprop(recs m ρ ∗ Snt (F := F) c 1 (up (pc m ρ c 1) 2 1) 4 1 ∗ debt c (oweL c (tl 10)))
      ⊢ Wp c (k0_part11 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 1 (up (pc m ρ c 1) 1 2) 3 2 ∗ debt c (oweL c (tl 11)))) := by
  rw [k0_part11_eq_skeleton]; unfold k0_part11_skel
  simp only [Prog.lift, Prog.bind_op, Prog.bind_ret, Prog.pure_eq_ret]
  iintro ⟨#HR, H1, Ho⟩
  iapply (st_wait_slot m ρ c 1 4 1 (tl 10) (up (pc m ρ c 1) 2 1) (by decide) (rfl : semP cc0_scratch3 5 _ = rcvS 1 1) (N_slot _ _) (by decide)) $$ [H1 Ho]
  · isplitr; · iexact HR
    isplitl [H1]; · iexact H1
    iexact Ho
  iintro ⟨H1, Ho⟩
  iapply (st_add m ρ c 1 4 1 1 (by decide) ((k0_off9_eq c 1).trans (by revert c; decide)) rfl rfl) $$ [H1]
  · iexact H1
  iintro H1
  rw [show tl 10 = (2, 1) :: tl 11 from rfl]
  iapply (st_send_slot m ρ c 1 3 2 (tl 11) (up (pc m ρ c 1) 1 2) (by decide) (Fin.ext ((k0_dev13_eq c).trans (by revert c; decide))) ((k0_off4_eq c 2).trans (by revert c; decide)) (rfl : _ = sOff _) (rfl : semP cc0_scratch2 9 _ = sndS 2 1) (rfl : semP cc0_scratch3 9 _ = rcvS 2 1)) $$ [H1 Ho]
  · isplitr; · iexact HR
    isplitl [H1]; · iexact H1
    iexact Ho
  iintro ⟨H1, Ho⟩
  unfold Wp; rw [wp_ret]; imodintro
  isplitl [H1]; · iexact H1
  iexact Ho

/-- Part 12: await hop 1 of 3; add to 3; send hop 2 of column block 3. -/
theorem part12 (c : Dev nD) (v2 v4 v7 : BitVec 32) :
    iprop(recs m ρ ∗ Snt (F := F) c 3 (up (pc m ρ c 3) 2 1) 4 1 ∗ debt c (oweL c (tl 11)))
      ⊢ Wp c (k0_part12 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 3 (up (pc m ρ c 3) 1 2) 3 2 ∗ debt c (oweL c (tl 12)))) := by
  rw [k0_part12_eq_skeleton]; unfold k0_part12_skel
  simp only [Prog.lift, Prog.bind_op, Prog.bind_ret, Prog.pure_eq_ret]
  iintro ⟨#HR, H3, Ho⟩
  iapply (st_wait_slot m ρ c 3 4 1 (tl 11) (up (pc m ρ c 3) 2 1) (by decide) (rfl : semP cc0_scratch3 7 _ = rcvS 1 3) (N_slot _ _) (by decide)) $$ [H3 Ho]
  · isplitr; · iexact HR
    isplitl [H3]; · iexact H3
    iexact Ho
  iintro ⟨H3, Ho⟩
  iapply (st_add m ρ c 3 4 1 1 (by decide) ((k0_off10_eq c 1).trans (by revert c; decide)) rfl rfl) $$ [H3]
  · iexact H3
  iintro H3
  rw [show tl 11 = (2, 3) :: tl 12 from rfl]
  iapply (st_send_slot m ρ c 3 3 2 (tl 12) (up (pc m ρ c 3) 1 2) (by decide) (Fin.ext ((k0_dev14_eq c).trans (by revert c; decide))) ((k0_off6_eq c 2).trans (by revert c; decide)) (rfl : _ = sOff _) (rfl : semP cc0_scratch2 11 _ = sndS 2 3) (rfl : semP cc0_scratch3 11 _ = rcvS 2 3)) $$ [H3 Ho]
  · isplitr; · iexact HR
    isplitl [H3]; · iexact H3
    iexact Ho
  iintro ⟨H3, Ho⟩
  unfold Wp; rw [wp_ret]; imodintro
  isplitl [H3]; · iexact H3
  iexact Ho

/-- Part 13: await hop 2 of 0; add to 0; send hop 3 of column block 0. -/
theorem part13 (c : Dev nD) (v2 v4 v7 : BitVec 32) :
    iprop(recs m ρ ∗ Snt (F := F) c 0 (up (pc m ρ c 0) 1 2) 3 2 ∗ debt c (oweL c (tl 12)))
      ⊢ Wp c (k0_part13 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 0 (up (pc m ρ c 0) 0 3) 2 3 ∗ rh m ρ c 0 3 ∗ debt c (oweL c (tl 13)))) := by
  rw [k0_part13_eq_skeleton]; unfold k0_part13_skel
  simp only [Prog.lift, Prog.bind_op, Prog.bind_ret, Prog.pure_eq_ret]
  iintro ⟨#HR, H0, Ho⟩
  iapply (st_wait_slot m ρ c 0 3 2 (tl 12) (up (pc m ρ c 0) 1 2) (by decide) (rfl : semP cc0_scratch3 8 _ = rcvS 2 0) (N_slot _ _) (by decide)) $$ [H0 Ho]
  · isplitr; · iexact HR
    isplitl [H0]; · iexact H0
    iexact Ho
  iintro ⟨H0, Ho⟩
  iapply (st_add m ρ c 0 3 2 0 (by decide) ((k0_off7_eq c 0).trans (by revert c; decide)) rfl rfl) $$ [H0]
  · iexact H0
  iintro H0
  rw [show tl 12 = (3, 0) :: tl 13 from rfl]
  iapply (st_send_piece m ρ c 0 2 3 (tl 13) (up (pc m ρ c 0) 0 3) (by decide) (by decide) (Fin.ext ((k0_dev15_eq c).trans (by revert c; decide))) ((k0_off3_eq c 1).trans (by revert c; decide)) ((k0_off3_eq c 1).trans (by revert c; decide)) (rfl : semP cc0_scratch4 0 _ = sndS 3 0) (rfl : semP cc0_scratch5 0 _ = rcvS 3 0)) $$ [H0 Ho]
  · isplitr; · iexact HR
    isplitl [H0]; · iexact H0
    iexact Ho
  iintro ⟨H0, R03, Ho⟩
  unfold Wp; rw [wp_ret]; imodintro
  isplitl [H0]; · iexact H0
  isplitl [R03]; · iexact R03
  iexact Ho

/-- Part 14: await hop 2 of 2; add to 2; send hop 3 of column block 2; await hop 2 of 1. -/
theorem part14 (c : Dev nD) (v2 v4 v7 : BitVec 32) :
    iprop(recs m ρ ∗ Snt (F := F) c 2 (up (pc m ρ c 2) 1 2) 3 2 ∗ Snt (F := F) c 1 (up (pc m ρ c 1) 1 2) 3 2 ∗ debt c (oweL c (tl 13)))
      ⊢ Wp c (k0_part14 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 2 (up (pc m ρ c 2) 0 3) 2 3 ∗ Got m ρ c 1 (up (pc m ρ c 1) 1 2) 3 2 ∗ rh m ρ c 2 3 ∗ debt c (oweL c (tl 14)))) := by
  rw [k0_part14_eq_skeleton]; unfold k0_part14_skel
  simp only [Prog.lift, Prog.bind_op, Prog.bind_ret, Prog.pure_eq_ret]
  iintro ⟨#HR, H2, H1, Ho⟩
  iapply (st_wait_slot m ρ c 2 3 2 (tl 13) (up (pc m ρ c 2) 1 2) (by decide) (rfl : semP cc0_scratch3 10 _ = rcvS 2 2) (N_slot _ _) (by decide)) $$ [H2 Ho]
  · isplitr; · iexact HR
    isplitl [H2]; · iexact H2
    iexact Ho
  iintro ⟨H2, Ho⟩
  iapply (st_add m ρ c 2 3 2 0 (by decide) ((k0_off8_eq c 2).trans (by revert c; decide)) rfl rfl) $$ [H2]
  · iexact H2
  iintro H2
  rw [show tl 13 = (3, 2) :: tl 14 from rfl]
  iapply (st_send_piece m ρ c 2 2 3 (tl 14) (up (pc m ρ c 2) 0 3) (by decide) (by decide) (Fin.ext ((k0_dev16_eq c).trans (by revert c; decide))) ((k0_off5_eq c 3).trans (by revert c; decide)) ((k0_off5_eq c 3).trans (by revert c; decide)) (rfl : semP cc0_scratch4 2 _ = sndS 3 2) (rfl : semP cc0_scratch5 2 _ = rcvS 3 2)) $$ [H2 Ho]
  · isplitr; · iexact HR
    isplitl [H2]; · iexact H2
    iexact Ho
  iintro ⟨H2, R23, Ho⟩
  iapply (st_wait_slot m ρ c 1 3 2 (tl 14) (up (pc m ρ c 1) 1 2) (by decide) (rfl : semP cc0_scratch3 9 _ = rcvS 2 1) (N_slot _ _) (by decide)) $$ [H1 Ho]
  · isplitr; · iexact HR
    isplitl [H1]; · iexact H1
    iexact Ho
  iintro ⟨H1, Ho⟩
  unfold Wp; rw [wp_ret]; imodintro
  isplitl [H2]; · iexact H2
  isplitl [H1]; · iexact H1
  isplitl [R23]; · iexact R23
  iexact Ho

/-- Part 15: add to 1; send hop 3 of column block 1; await hop 2 of 3. -/
theorem part15 (c : Dev nD) (v2 v4 v7 : BitVec 32) :
    iprop(recs m ρ ∗ Got m ρ c 1 (up (pc m ρ c 1) 1 2) 3 2 ∗ Snt (F := F) c 3 (up (pc m ρ c 3) 1 2) 3 2 ∗ debt c (oweL c (tl 14)))
      ⊢ Wp c (k0_part15 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 1 (up (pc m ρ c 1) 0 3) 2 3 ∗ Got m ρ c 3 (up (pc m ρ c 3) 1 2) 3 2 ∗ rh m ρ c 1 3 ∗ debt c (oweL c (tl 15)))) := by
  rw [k0_part15_eq_skeleton]; unfold k0_part15_skel
  simp only [Prog.lift, Prog.bind_op, Prog.bind_ret, Prog.pure_eq_ret]
  iintro ⟨#HR, H1, H3, Ho⟩
  iapply (st_add m ρ c 1 3 2 0 (by decide) ((k0_off9_eq c 0).trans (by revert c; decide)) rfl rfl) $$ [H1]
  · iexact H1
  iintro H1
  rw [show tl 14 = (3, 1) :: tl 15 from rfl]
  iapply (st_send_piece m ρ c 1 2 3 (tl 15) (up (pc m ρ c 1) 0 3) (by decide) (by decide) (Fin.ext ((k0_dev17_eq c).trans (by revert c; decide))) ((k0_off4_eq c 1).trans (by revert c; decide)) ((k0_off4_eq c 1).trans (by revert c; decide)) (rfl : semP cc0_scratch4 1 _ = sndS 3 1) (rfl : semP cc0_scratch5 1 _ = rcvS 3 1)) $$ [H1 Ho]
  · isplitr; · iexact HR
    isplitl [H1]; · iexact H1
    iexact Ho
  iintro ⟨H1, R13, Ho⟩
  iapply (st_wait_slot m ρ c 3 3 2 (tl 15) (up (pc m ρ c 3) 1 2) (by decide) (rfl : semP cc0_scratch3 11 _ = rcvS 2 3) (N_slot _ _) (by decide)) $$ [H3 Ho]
  · isplitr; · iexact HR
    isplitl [H3]; · iexact H3
    iexact Ho
  iintro ⟨H3, Ho⟩
  unfold Wp; rw [wp_ret]; imodintro
  isplitl [H1]; · iexact H1
  isplitl [H3]; · iexact H3
  isplitl [R13]; · iexact R13
  iexact Ho

/-- Part 16: add to 3; send hop 3 of column block 3; await hop 3 of 0. -/
theorem part16 (c : Dev nD) (v2 v4 v7 v462 : BitVec 32) :
    iprop(recs m ρ ∗ Got m ρ c 3 (up (pc m ρ c 3) 1 2) 3 2 ∗ Snt (F := F) c 0 (up (pc m ρ c 0) 0 3) 2 3 ∗ debt c (oweL c (tl 15)))
      ⊢ Wp c (k0_part16 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v462) (fun _ => iprop(Snt (F := F) c 3 (up (pc m ρ c 3) 0 3) 2 3 ∗ Rdy m ρ c 0 (up (pc m ρ c 0) 0 3) 2 4 ∗ rh m ρ c 3 3 ∗ debt c (oweL c (tl 16)))) := by
  rw [k0_part16_eq_skeleton]; unfold k0_part16_skel
  simp only [Prog.lift, Prog.bind_op, Prog.bind_ret, Prog.pure_eq_ret]
  iintro ⟨#HR, H3, H0, Ho⟩
  iapply (st_add m ρ c 3 3 2 0 (by decide) ((k0_off10_eq c 2).trans (by revert c; decide)) rfl rfl) $$ [H3]
  · iexact H3
  iintro H3
  rw [show tl 15 = (3, 3) :: tl 16 from rfl]
  iapply (st_send_piece m ρ c 3 2 3 (tl 16) (up (pc m ρ c 3) 0 3) (by decide) (by decide) (Fin.ext ((k0_dev18_eq c).trans (by revert c; decide))) ((k0_off6_eq c 3).trans (by revert c; decide)) ((k0_off6_eq c 3).trans (by revert c; decide)) (rfl : semP cc0_scratch4 3 _ = sndS 3 3) (rfl : semP cc0_scratch5 3 _ = rcvS 3 3)) $$ [H3 Ho]
  · isplitr; · iexact HR
    isplitl [H3]; · iexact H3
    iexact Ho
  iintro ⟨H3, R33, Ho⟩
  iapply (st_wait_piece m ρ c 0 2 3 (tl 16) (up (pc m ρ c 0) 0 3) (by decide) (by decide) (rfl : semP cc0_scratch5 0 _ = rcvS 3 0) (N_acc _ _) (by decide)) $$ [H0 Ho]
  · isplitr; · iexact HR
    isplitl [H0]; · iexact H0
    iexact Ho
  iintro ⟨H0, Ho⟩
  unfold Wp; rw [wp_ret]; imodintro
  isplitl [H3]; · iexact H3
  isplitl [H0]; · iexact H0
  isplitl [R33]; · iexact R33
  iexact Ho

/-- Part 17: send hop 4 of column block 0; await hop 3 of 2; send hop 4 of column block 2. -/
theorem part17 (c : Dev nD) (v2 v4 v7 : BitVec 32) :
    iprop(recs m ρ ∗ Rdy m ρ c 0 (up (pc m ρ c 0) 0 3) 2 4 ∗ Snt (F := F) c 2 (up (pc m ρ c 2) 0 3) 2 3 ∗ debt c (oweL c (tl 16)))
      ⊢ Wp c (k0_part17 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 0 (up (pc m ρ c 0) 0 3) 1 4 ∗ Snt (F := F) c 2 (up (pc m ρ c 2) 0 3) 1 4 ∗ rh m ρ c 0 4 ∗ rh m ρ c 2 4 ∗ debt c (oweL c (tl 18)))) := by
  rw [k0_part17_eq_skeleton]; unfold k0_part17_skel
  simp only [Prog.lift, Prog.bind_op, Prog.bind_ret, Prog.pure_eq_ret]
  iintro ⟨#HR, H0, H2, Ho⟩
  rw [show tl 16 = (4, 0) :: tl 17 from rfl]
  iapply (st_send_piece m ρ c 0 1 4 (tl 17) (up (pc m ρ c 0) 0 3) (by decide) (by decide) (Fin.ext ((k0_dev19_eq c).trans (by revert c; decide))) ((k0_off3_eq c 0).trans (by revert c; decide)) ((k0_off3_eq c 0).trans (by revert c; decide)) (rfl : semP cc0_scratch4 4 _ = sndS 4 0) (rfl : semP cc0_scratch5 4 _ = rcvS 4 0)) $$ [H0 Ho]
  · isplitr; · iexact HR
    isplitl [H0]; · iexact H0
    iexact Ho
  iintro ⟨H0, R04, Ho⟩
  iapply (st_wait_piece m ρ c 2 2 3 (tl 17) (up (pc m ρ c 2) 0 3) (by decide) (by decide) (rfl : semP cc0_scratch5 2 _ = rcvS 3 2) (N_acc _ _) (by decide)) $$ [H2 Ho]
  · isplitr; · iexact HR
    isplitl [H2]; · iexact H2
    iexact Ho
  iintro ⟨H2, Ho⟩
  rw [show tl 17 = (4, 2) :: tl 18 from rfl]
  iapply (st_send_piece m ρ c 2 1 4 (tl 18) (up (pc m ρ c 2) 0 3) (by decide) (by decide) (Fin.ext ((k0_dev20_eq c).trans (by revert c; decide))) ((k0_off5_eq c 0).trans (by revert c; decide)) ((k0_off5_eq c 0).trans (by revert c; decide)) (rfl : semP cc0_scratch4 6 _ = sndS 4 2) (rfl : semP cc0_scratch5 6 _ = rcvS 4 2)) $$ [H2 Ho]
  · isplitr; · iexact HR
    isplitl [H2]; · iexact H2
    iexact Ho
  iintro ⟨H2, R24, Ho⟩
  unfold Wp; rw [wp_ret]; imodintro
  isplitl [H0]; · iexact H0
  isplitl [H2]; · iexact H2
  isplitl [R04]; · iexact R04
  isplitl [R24]; · iexact R24
  iexact Ho

/-- Part 18: await hop 3 of 1; send hop 4 of column block 1; await hop 3 of 3; send hop 4 of column block 3. -/
theorem part18 (c : Dev nD) (v2 v4 v7 : BitVec 32) :
    iprop(recs m ρ ∗ Snt (F := F) c 1 (up (pc m ρ c 1) 0 3) 2 3 ∗ Snt (F := F) c 3 (up (pc m ρ c 3) 0 3) 2 3 ∗ debt c (oweL c (tl 18)))
      ⊢ Wp c (k0_part18 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 1 (up (pc m ρ c 1) 0 3) 1 4 ∗ Snt (F := F) c 3 (up (pc m ρ c 3) 0 3) 1 4 ∗ rh m ρ c 1 4 ∗ rh m ρ c 3 4 ∗ debt c (oweL c (tl 20)))) := by
  rw [k0_part18_eq_skeleton]; unfold k0_part18_skel
  simp only [Prog.lift, Prog.bind_op, Prog.bind_ret, Prog.pure_eq_ret]
  iintro ⟨#HR, H1, H3, Ho⟩
  iapply (st_wait_piece m ρ c 1 2 3 (tl 18) (up (pc m ρ c 1) 0 3) (by decide) (by decide) (rfl : semP cc0_scratch5 1 _ = rcvS 3 1) (N_acc _ _) (by decide)) $$ [H1 Ho]
  · isplitr; · iexact HR
    isplitl [H1]; · iexact H1
    iexact Ho
  iintro ⟨H1, Ho⟩
  rw [show tl 18 = (4, 1) :: tl 19 from rfl]
  iapply (st_send_piece m ρ c 1 1 4 (tl 19) (up (pc m ρ c 1) 0 3) (by decide) (by decide) (Fin.ext ((k0_dev21_eq c).trans (by revert c; decide))) ((k0_off4_eq c 0).trans (by revert c; decide)) ((k0_off4_eq c 0).trans (by revert c; decide)) (rfl : semP cc0_scratch4 5 _ = sndS 4 1) (rfl : semP cc0_scratch5 5 _ = rcvS 4 1)) $$ [H1 Ho]
  · isplitr; · iexact HR
    isplitl [H1]; · iexact H1
    iexact Ho
  iintro ⟨H1, R14, Ho⟩
  iapply (st_wait_piece m ρ c 3 2 3 (tl 19) (up (pc m ρ c 3) 0 3) (by decide) (by decide) (rfl : semP cc0_scratch5 3 _ = rcvS 3 3) (N_acc _ _) (by decide)) $$ [H3 Ho]
  · isplitr; · iexact HR
    isplitl [H3]; · iexact H3
    iexact Ho
  iintro ⟨H3, Ho⟩
  rw [show tl 19 = (4, 3) :: tl 20 from rfl]
  iapply (st_send_piece m ρ c 3 1 4 (tl 20) (up (pc m ρ c 3) 0 3) (by decide) (by decide) (Fin.ext ((k0_dev22_eq c).trans (by revert c; decide))) ((k0_off6_eq c 0).trans (by revert c; decide)) ((k0_off6_eq c 0).trans (by revert c; decide)) (rfl : semP cc0_scratch4 7 _ = sndS 4 3) (rfl : semP cc0_scratch5 7 _ = rcvS 4 3)) $$ [H3 Ho]
  · isplitr; · iexact HR
    isplitl [H3]; · iexact H3
    iexact Ho
  iintro ⟨H3, R34, Ho⟩
  unfold Wp; rw [wp_ret]; imodintro
  isplitl [H1]; · iexact H1
  isplitl [H3]; · iexact H3
  isplitl [R14]; · iexact R14
  isplitl [R34]; · iexact R34
  iexact Ho

/-- Part 19: write row block c + 0; await hop 4 of 0; send hop 5 of column block 0; await hop 4 of 2. -/
theorem part19 (c : Dev nD) (v2 v4 v7 v554 : BitVec 32) :
    iprop(recs m ρ ∗ Snt (F := F) c 0 (up (pc m ρ c 0) 0 3) 1 4 ∗ Snt (F := F) c 2 (up (pc m ρ c 2) 0 3) 1 4 ∗ accRow c (mv 0 0 c) fullShare.right (T m ρ 3) ∗ outAny (F := F) c (mv 0 0 c) ∗ debt c (oweL c (tl 20)))
      ⊢ Wp c (k0_part19 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v554) (fun _ => iprop(Snt (F := F) c 0 (up (pc m ρ c 0) 0 3) 0 5 ∗ Rdy m ρ c 2 (up (pc m ρ c 2) 0 3) 1 5 ∗ rh m ρ c 0 5 ∗ accRow c (mv 0 0 c) fullShare.right (T m ρ 3) ∗ outRow c (mv 0 0 c) (outAt m ρ) ∗ debt c (oweL c (tl 21)))) := by
  rw [k0_part19_eq_skeleton]; unfold k0_part19_skel
  simp only [Prog.lift, Prog.bind_op, Prog.bind_ret, Prog.pure_eq_ret]
  iintro ⟨#HR, H0, H2, B0, U0, Ho⟩
  iapply (wp_out m ρ c (mv 0 0 c) fullShare.right ((k0_off2_eq c 0).trans (by revert c; decide)) rfl) $$ [B0 U0]
  · isplitl [B0]; · iexact B0
    iexact U0
  iintro ⟨B0, U0⟩
  iapply (st_wait_piece m ρ c 0 1 4 (tl 20) (up (pc m ρ c 0) 0 3) (by decide) (by decide) (rfl : semP cc0_scratch5 4 _ = rcvS 4 0) (N_acc _ _) (by decide)) $$ [H0 Ho]
  · isplitr; · iexact HR
    isplitl [H0]; · iexact H0
    iexact Ho
  iintro ⟨H0, Ho⟩
  rw [show tl 20 = (5, 0) :: tl 21 from rfl]
  iapply (st_send_piece m ρ c 0 0 5 (tl 21) (up (pc m ρ c 0) 0 3) (by decide) (by decide) (Fin.ext ((k0_dev23_eq c).trans (by revert c; decide))) ((k0_off3_eq c 3).trans (by revert c; decide)) ((k0_off3_eq c 3).trans (by revert c; decide)) (rfl : semP cc0_scratch4 8 _ = sndS 5 0) (rfl : semP cc0_scratch5 8 _ = rcvS 5 0)) $$ [H0 Ho]
  · isplitr; · iexact HR
    isplitl [H0]; · iexact H0
    iexact Ho
  iintro ⟨H0, R05, Ho⟩
  iapply (st_wait_piece m ρ c 2 1 4 (tl 21) (up (pc m ρ c 2) 0 3) (by decide) (by decide) (rfl : semP cc0_scratch5 6 _ = rcvS 4 2) (N_acc _ _) (by decide)) $$ [H2 Ho]
  · isplitr; · iexact HR
    isplitl [H2]; · iexact H2
    iexact Ho
  iintro ⟨H2, Ho⟩
  unfold Wp; rw [wp_ret]; imodintro
  isplitl [H0]; · iexact H0
  isplitl [H2]; · iexact H2
  isplitl [R05]; · iexact R05
  isplitl [B0]; · iexact B0
  isplitl [U0]; · iexact U0
  iexact Ho

/-- Part 20: send hop 5 of column block 2; await hop 4 of 1; send hop 5 of column block 1. -/
theorem part20 (c : Dev nD) (v2 v4 v7 v584 c4_i32_462 : BitVec 32) :
    iprop(recs m ρ ∗ Rdy m ρ c 2 (up (pc m ρ c 2) 0 3) 1 5 ∗ Snt (F := F) c 1 (up (pc m ρ c 1) 0 3) 1 4 ∗ debt c (oweL c (tl 21)))
      ⊢ Wp c (k0_part20 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7 v584 c4_i32_462) (fun _ => iprop(Snt (F := F) c 2 (up (pc m ρ c 2) 0 3) 0 5 ∗ Snt (F := F) c 1 (up (pc m ρ c 1) 0 3) 0 5 ∗ rh m ρ c 2 5 ∗ rh m ρ c 1 5 ∗ debt c (oweL c (tl 23)))) := by
  rw [k0_part20_eq_skeleton]; unfold k0_part20_skel
  simp only [Prog.lift, Prog.bind_op, Prog.bind_ret, Prog.pure_eq_ret]
  iintro ⟨#HR, H2, H1, Ho⟩
  rw [show tl 21 = (5, 2) :: tl 22 from rfl]
  iapply (st_send_piece m ρ c 2 0 5 (tl 22) (up (pc m ρ c 2) 0 3) (by decide) (by decide) (Fin.ext ((k0_dev24_eq c).trans (by revert c; decide))) ((k0_off5_eq c 1).trans (by revert c; decide)) ((k0_off5_eq c 1).trans (by revert c; decide)) (rfl : semP cc0_scratch4 10 _ = sndS 5 2) (rfl : semP cc0_scratch5 10 _ = rcvS 5 2)) $$ [H2 Ho]
  · isplitr; · iexact HR
    isplitl [H2]; · iexact H2
    iexact Ho
  iintro ⟨H2, R25, Ho⟩
  iapply (st_wait_piece m ρ c 1 1 4 (tl 22) (up (pc m ρ c 1) 0 3) (by decide) (by decide) (rfl : semP cc0_scratch5 5 _ = rcvS 4 1) (N_acc _ _) (by decide)) $$ [H1 Ho]
  · isplitr; · iexact HR
    isplitl [H1]; · iexact H1
    iexact Ho
  iintro ⟨H1, Ho⟩
  rw [show tl 22 = (5, 1) :: tl 23 from rfl]
  iapply (st_send_piece m ρ c 1 0 5 (tl 23) (up (pc m ρ c 1) 0 3) (by decide) (by decide) (Fin.ext ((k0_dev25_eq c).trans (by revert c; decide))) ((k0_off4_eq c 3).trans (by revert c; decide)) ((k0_off4_eq c 3).trans (by revert c; decide)) (rfl : semP cc0_scratch4 9 _ = sndS 5 1) (rfl : semP cc0_scratch5 9 _ = rcvS 5 1)) $$ [H1 Ho]
  · isplitr; · iexact HR
    isplitl [H1]; · iexact H1
    iexact Ho
  iintro ⟨H1, R15, Ho⟩
  unfold Wp; rw [wp_ret]; imodintro
  isplitl [H2]; · iexact H2
  isplitl [H1]; · iexact H1
  isplitl [R25]; · iexact R25
  isplitl [R15]; · iexact R15
  iexact Ho

/-- Part 21: await hop 4 of 3; send hop 5 of column block 3; write row block c + 1; write row block c + 3. -/
theorem part21 (c : Dev nD) (v2 v4 v7 : BitVec 32) :
    iprop(recs m ρ ∗ Snt (F := F) c 3 (up (pc m ρ c 3) 0 3) 1 4 ∗ rh m ρ c 0 3 ∗ rh m ρ c 1 3 ∗ rh m ρ c 2 5 ∗ accRow c (mv 0 3 c) fullShare.right (T m ρ 3) ∗ outAny (F := F) c (mv 0 1 c) ∗ outAny (F := F) c (mv 0 3 c) ∗ debt c (oweL c (tl 23)))
      ⊢ Wp c (k0_part21 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Snt (F := F) c 3 (up (pc m ρ c 3) 0 3) 0 5 ∗ accRow c (mv 0 1 c) fullShare.right (T m ρ 3) ∗ outRow c (mv 0 1 c) (outAt m ρ) ∗ accRow c (mv 0 3 c) fullShare.right (T m ρ 3) ∗ outRow c (mv 0 3 c) (outAt m ρ) ∗ debt c (oweL c (tl 24)))) := by
  rw [k0_part21_eq_skeleton]; unfold k0_part21_skel
  simp only [Prog.lift, Prog.bind_op, Prog.bind_ret, Prog.pure_eq_ret]
  iintro ⟨#HR, H3, R03, R13, R25, B3, U1, U3, Ho⟩
  iapply (st_wait_piece m ρ c 3 1 4 (tl 23) (up (pc m ρ c 3) 0 3) (by decide) (by decide) (rfl : semP cc0_scratch5 7 _ = rcvS 4 3) (N_acc _ _) (by decide)) $$ [H3 Ho]
  · isplitr; · iexact HR
    isplitl [H3]; · iexact H3
    iexact Ho
  iintro ⟨H3, Ho⟩
  rw [show tl 23 = (5, 3) :: tl 24 from rfl]
  iapply (st_send_piece m ρ c 3 0 5 (tl 24) (up (pc m ρ c 3) 0 3) (by decide) (by decide) (Fin.ext ((k0_dev26_eq c).trans (by revert c; decide))) ((k0_off6_eq c 1).trans (by revert c; decide)) ((k0_off6_eq c 1).trans (by revert c; decide)) (rfl : semP cc0_scratch4 11 _ = sndS 5 3) (rfl : semP cc0_scratch5 11 _ = rcvS 5 3)) $$ [H3 Ho]
  · isplitr; · iexact HR
    isplitl [H3]; · iexact H3
    iexact Ho
  iintro ⟨H3, R35, Ho⟩
  ihave B1 := (row_right m ρ c (mv 0 1 c) 3 3 5 5 (by revert c; decide)) $$ [R03 R13 R25 R35]
  · isplitl [R03]; · iexact R03
    isplitl [R13]; · iexact R13
    isplitl [R25]; · iexact R25
    iexact R35
  iapply (wp_out m ρ c (mv 0 1 c) fullShare.right ((k0_off2_eq c 1).trans (by revert c; decide)) rfl) $$ [B1 U1]
  · isplitl [B1]; · iexact B1
    iexact U1
  iintro ⟨B1, U1⟩
  iapply (wp_out m ρ c (mv 0 3 c) fullShare.right ((k0_off2_eq c 3).trans (by revert c; decide)) rfl) $$ [B3 U3]
  · isplitl [B3]; · iexact B3
    iexact U3
  iintro ⟨B3, U3⟩
  unfold Wp; rw [wp_ret]; imodintro
  isplitl [H3]; · iexact H3
  isplitl [B1]; · iexact B1
  isplitl [U1]; · iexact U1
  isplitl [B3]; · iexact B3
  isplitl [U3]; · iexact U3
  iexact Ho

/-- Part 22: await hop 5 of 0; await hop 5 of 2; await hop 5 of 1; await hop 5 of 3; write row block c + 2. -/
theorem part22 (c : Dev nD) (v2 v4 v7 : BitVec 32) :
    iprop(recs m ρ ∗ Snt (F := F) c 0 (up (pc m ρ c 0) 0 3) 0 5 ∗ Snt (F := F) c 2 (up (pc m ρ c 2) 0 3) 0 5 ∗ Snt (F := F) c 1 (up (pc m ρ c 1) 0 3) 0 5 ∗ Snt (F := F) c 3 (up (pc m ρ c 3) 0 3) 0 5 ∗ outAny (F := F) c (mv 0 2 c) ∗ debt c (oweL c (tl 24)))
      ⊢ Wp c (k0_part22 xM (Memref.isWhole_whole _) wM (Memref.isWhole_whole _) oM (Memref.isWhole_whole _) aM (Memref.isWhole_whole _) bM (Memref.isWhole_whole _) cc0_scratch2 cc0_scratch3 cc0_scratch4 cc0_scratch5 c v2 v4 v7) (fun _ => iprop(Out m ρ c 0 6 0 ∗ Out m ρ c 2 6 0 ∗ Out m ρ c 1 6 0 ∗ Out m ρ c 3 6 0 ∗ dn (dR (F := F) c 0) 6 ∗ dn (dR (F := F) c 1) 6 ∗ dn (dR (F := F) c 2) 6 ∗ dn (dR (F := F) c 3) 6 ∗ accRow c (mv 0 2 c) fullShare (T m ρ 3) ∗ outRow c (mv 0 2 c) (outAt m ρ) ∗ debt c (oweL c (tl 24)))) := by
  rw [k0_part22_eq_skeleton]; unfold k0_part22_skel
  simp only [Prog.lift, Prog.bind_op, Prog.bind_ret, Prog.pure_eq_ret]
  iintro ⟨#HR, H0, H2, H1, H3, U2, Ho⟩
  iapply (st_wait_piece m ρ c 0 0 5 (tl 24) (up (pc m ρ c 0) 0 3) (by decide) (by decide) (rfl : semP cc0_scratch5 8 _ = rcvS 5 0) (N_acc _ _) (by decide)) $$ [H0 Ho]
  · isplitr; · iexact HR
    isplitl [H0]; · iexact H0
    iexact Ho
  iintro ⟨H0, Ho⟩
  iapply (st_wait_piece m ρ c 2 0 5 (tl 24) (up (pc m ρ c 2) 0 3) (by decide) (by decide) (rfl : semP cc0_scratch5 10 _ = rcvS 5 2) (N_acc _ _) (by decide)) $$ [H2 Ho]
  · isplitr; · iexact HR
    isplitl [H2]; · iexact H2
    iexact Ho
  iintro ⟨H2, Ho⟩
  iapply (st_wait_piece m ρ c 1 0 5 (tl 24) (up (pc m ρ c 1) 0 3) (by decide) (by decide) (rfl : semP cc0_scratch5 9 _ = rcvS 5 1) (N_acc _ _) (by decide)) $$ [H1 Ho]
  · isplitr; · iexact HR
    isplitl [H1]; · iexact H1
    iexact Ho
  iintro ⟨H1, Ho⟩
  iapply (st_wait_piece m ρ c 3 0 5 (tl 24) (up (pc m ρ c 3) 0 3) (by decide) (by decide) (rfl : semP cc0_scratch5 11 _ = rcvS 5 3) (N_acc _ _) (by decide)) $$ [H3 Ho]
  · isplitr; · iexact HR
    isplitl [H3]; · iexact H3
    iexact Ho
  iintro ⟨H3, Ho⟩
  ihave Hr := (row_last m ρ c (up (pc m ρ c 0) 0 3) (up (pc m ρ c 1) 0 3) (up (pc m ρ c 2) 0 3) (up (pc m ρ c 3) 0 3)) $$ [H0 H1 H2 H3]
  · isplitl [H0]; · iexact H0
    isplitl [H1]; · iexact H1
    isplitl [H2]; · iexact H2
    iexact H3
  icases Hr with ⟨B2, ⟨H0, D0⟩, ⟨H1, D1⟩, ⟨H2, D2⟩, ⟨H3, D3⟩⟩
  iapply (wp_out m ρ c (mv 0 2 c) fullShare ((k0_off2_eq c 2).trans (by revert c; decide)) rfl) $$ [B2 U2]
  · isplitl [B2]; · iexact B2
    iexact U2
  iintro ⟨B2, U2⟩
  unfold Wp; rw [wp_ret]; imodintro
  isplitl [H0]; · iexact H0
  isplitl [H2]; · iexact H2
  isplitl [H1]; · iexact H1
  isplitl [H3]; · iexact H3
  isplitl [D0]; · iexact D0
  isplitl [D1]; · iexact D1
  isplitl [D2]; · iexact D2
  isplitl [D3]; · iexact D3
  isplitl [B2]; · iexact B2
  isplitl [U2]; · iexact U2
  iexact Ho

/-- Part 23: await the copy out of hop 0 of 0; await the copy out of hop 0 of 1; await the copy out of hop 0 of 2; await the copy out of hop 0 of 3. -/
theorem part23 (c : Dev nD) :
    iprop(recs m ρ ∗ Out m ρ c 0 6 0 ∗ Out m ρ c 1 6 0 ∗ Out m ρ c 2 6 0 ∗ Out m ρ c 3 6 0 ∗ debt c 0)
      ⊢ Wp c (k0_part23 xM (Memref.isWhole_whole _) wM (Memref.isWhole_whole _) oM (Memref.isWhole_whole _) aM (Memref.isWhole_whole _) bM (Memref.isWhole_whole _) cc0_scratch2 cc0_scratch3 cc0_scratch4 cc0_scratch5 c) (fun _ => iprop(Out m ρ c 0 5 1 ∗ Out m ρ c 1 5 1 ∗ Out m ρ c 2 5 1 ∗ Out m ρ c 3 5 1 ∗ debt c 0)) := by
  rw [k0_part23_eq_skeleton]; unfold k0_part23_skel
  simp only [Prog.lift, Prog.bind_op, Prog.bind_ret, Prog.pure_eq_ret]
  iintro ⟨#HR, H0, H1, H2, H3, Ho⟩
  iapply (st_wait_out m ρ c 0 5 0 (by decide) (rfl : semP cc0_scratch2 0 _ = sndS 0 0) (N_acc _ _)) $$ [H0 Ho]
  · isplitr; · iexact HR
    isplitl [H0]; · iexact H0
    iexact Ho
  iintro ⟨H0, Ho⟩
  iapply (st_wait_out m ρ c 1 5 0 (by decide) (rfl : semP cc0_scratch2 1 _ = sndS 0 1) (N_acc _ _)) $$ [H1 Ho]
  · isplitr; · iexact HR
    isplitl [H1]; · iexact H1
    iexact Ho
  iintro ⟨H1, Ho⟩
  iapply (st_wait_out m ρ c 2 5 0 (by decide) (rfl : semP cc0_scratch2 2 _ = sndS 0 2) (N_acc _ _)) $$ [H2 Ho]
  · isplitr; · iexact HR
    isplitl [H2]; · iexact H2
    iexact Ho
  iintro ⟨H2, Ho⟩
  iapply (st_wait_out m ρ c 3 5 0 (by decide) (rfl : semP cc0_scratch2 3 _ = sndS 0 3) (N_acc _ _)) $$ [H3 Ho]
  · isplitr; · iexact HR
    isplitl [H3]; · iexact H3
    iexact Ho
  iintro ⟨H3, Ho⟩
  unfold Wp; rw [wp_ret]; imodintro
  isplitl [H0]; · iexact H0
  isplitl [H1]; · iexact H1
  isplitl [H2]; · iexact H2
  isplitl [H3]; · iexact H3
  iexact Ho

/-- Part 24: await the copy out of hop 1 of 0; await the copy out of hop 1 of 2; await the copy out of hop 1 of 1; await the copy out of hop 1 of 3; await the copy out of hop 2 of 0. -/
theorem part24 (c : Dev nD) :
    iprop(recs m ρ ∗ Out m ρ c 0 5 1 ∗ Out m ρ c 2 5 1 ∗ Out m ρ c 1 5 1 ∗ Out m ρ c 3 5 1 ∗ debt c 0)
      ⊢ Wp c (k0_part24 xM (Memref.isWhole_whole _) wM (Memref.isWhole_whole _) oM (Memref.isWhole_whole _) aM (Memref.isWhole_whole _) bM (Memref.isWhole_whole _) cc0_scratch2 cc0_scratch3 cc0_scratch4 cc0_scratch5 c) (fun _ => iprop(Out m ρ c 0 3 3 ∗ Out m ρ c 2 4 2 ∗ Out m ρ c 1 4 2 ∗ Out m ρ c 3 4 2 ∗ debt c 0)) := by
  rw [k0_part24_eq_skeleton]; unfold k0_part24_skel
  simp only [Prog.lift, Prog.bind_op, Prog.bind_ret, Prog.pure_eq_ret]
  iintro ⟨#HR, H0, H2, H1, H3, Ho⟩
  iapply (st_wait_out m ρ c 0 4 1 (by decide) (rfl : semP cc0_scratch2 4 _ = sndS 1 0) (N_acc _ _)) $$ [H0 Ho]
  · isplitr; · iexact HR
    isplitl [H0]; · iexact H0
    iexact Ho
  iintro ⟨H0, Ho⟩
  iapply (st_wait_out m ρ c 2 4 1 (by decide) (rfl : semP cc0_scratch2 6 _ = sndS 1 2) (N_acc _ _)) $$ [H2 Ho]
  · isplitr; · iexact HR
    isplitl [H2]; · iexact H2
    iexact Ho
  iintro ⟨H2, Ho⟩
  iapply (st_wait_out m ρ c 1 4 1 (by decide) (rfl : semP cc0_scratch2 5 _ = sndS 1 1) (N_acc _ _)) $$ [H1 Ho]
  · isplitr; · iexact HR
    isplitl [H1]; · iexact H1
    iexact Ho
  iintro ⟨H1, Ho⟩
  iapply (st_wait_out m ρ c 3 4 1 (by decide) (rfl : semP cc0_scratch2 7 _ = sndS 1 3) (N_acc _ _)) $$ [H3 Ho]
  · isplitr; · iexact HR
    isplitl [H3]; · iexact H3
    iexact Ho
  iintro ⟨H3, Ho⟩
  iapply (st_wait_out m ρ c 0 3 2 (by decide) (rfl : semP cc0_scratch2 8 _ = sndS 2 0) (N_acc _ _)) $$ [H0 Ho]
  · isplitr; · iexact HR
    isplitl [H0]; · iexact H0
    iexact Ho
  iintro ⟨H0, Ho⟩
  unfold Wp; rw [wp_ret]; imodintro
  isplitl [H0]; · iexact H0
  isplitl [H2]; · iexact H2
  isplitl [H1]; · iexact H1
  isplitl [H3]; · iexact H3
  iexact Ho

/-- Part 25: await the copy out of hop 2 of 2; await the copy out of hop 2 of 1; await the copy out of hop 2 of 3; await the copy out of hop 3 of 0; await the copy out of hop 3 of 2. -/
theorem part25 (c : Dev nD) :
    iprop(recs m ρ ∗ Out m ρ c 2 4 2 ∗ Out m ρ c 1 4 2 ∗ Out m ρ c 3 4 2 ∗ Out m ρ c 0 3 3 ∗ debt c 0)
      ⊢ Wp c (k0_part25 xM (Memref.isWhole_whole _) wM (Memref.isWhole_whole _) oM (Memref.isWhole_whole _) aM (Memref.isWhole_whole _) bM (Memref.isWhole_whole _) cc0_scratch2 cc0_scratch3 cc0_scratch4 cc0_scratch5 c) (fun _ => iprop(Out m ρ c 2 2 4 ∗ Out m ρ c 1 3 3 ∗ Out m ρ c 3 3 3 ∗ Out m ρ c 0 2 4 ∗ debt c 0)) := by
  rw [k0_part25_eq_skeleton]; unfold k0_part25_skel
  simp only [Prog.lift, Prog.bind_op, Prog.bind_ret, Prog.pure_eq_ret]
  iintro ⟨#HR, H2, H1, H3, H0, Ho⟩
  iapply (st_wait_out m ρ c 2 3 2 (by decide) (rfl : semP cc0_scratch2 10 _ = sndS 2 2) (N_acc _ _)) $$ [H2 Ho]
  · isplitr; · iexact HR
    isplitl [H2]; · iexact H2
    iexact Ho
  iintro ⟨H2, Ho⟩
  iapply (st_wait_out m ρ c 1 3 2 (by decide) (rfl : semP cc0_scratch2 9 _ = sndS 2 1) (N_acc _ _)) $$ [H1 Ho]
  · isplitr; · iexact HR
    isplitl [H1]; · iexact H1
    iexact Ho
  iintro ⟨H1, Ho⟩
  iapply (st_wait_out m ρ c 3 3 2 (by decide) (rfl : semP cc0_scratch2 11 _ = sndS 2 3) (N_acc _ _)) $$ [H3 Ho]
  · isplitr; · iexact HR
    isplitl [H3]; · iexact H3
    iexact Ho
  iintro ⟨H3, Ho⟩
  iapply (st_wait_out m ρ c 0 2 3 (by decide) (rfl : semP cc0_scratch4 0 _ = sndS 3 0) (N_acc _ _)) $$ [H0 Ho]
  · isplitr; · iexact HR
    isplitl [H0]; · iexact H0
    iexact Ho
  iintro ⟨H0, Ho⟩
  iapply (st_wait_out m ρ c 2 2 3 (by decide) (rfl : semP cc0_scratch4 2 _ = sndS 3 2) (N_acc _ _)) $$ [H2 Ho]
  · isplitr; · iexact HR
    isplitl [H2]; · iexact H2
    iexact Ho
  iintro ⟨H2, Ho⟩
  unfold Wp; rw [wp_ret]; imodintro
  isplitl [H2]; · iexact H2
  isplitl [H1]; · iexact H1
  isplitl [H3]; · iexact H3
  isplitl [H0]; · iexact H0
  iexact Ho

/-- Part 26: await the copy out of hop 3 of 1; await the copy out of hop 3 of 3; await the copy out of hop 4 of 0; await the copy out of hop 4 of 2; await the copy out of hop 4 of 1; await the copy out of hop 4 of 3. -/
theorem part26 (c : Dev nD) :
    iprop(recs m ρ ∗ Out m ρ c 1 3 3 ∗ Out m ρ c 3 3 3 ∗ Out m ρ c 0 2 4 ∗ Out m ρ c 2 2 4 ∗ debt c 0)
      ⊢ Wp c (k0_part26 xM (Memref.isWhole_whole _) wM (Memref.isWhole_whole _) oM (Memref.isWhole_whole _) aM (Memref.isWhole_whole _) bM (Memref.isWhole_whole _) cc0_scratch2 cc0_scratch3 cc0_scratch4 cc0_scratch5 c) (fun _ => iprop(Out m ρ c 1 1 5 ∗ Out m ρ c 3 1 5 ∗ Out m ρ c 0 1 5 ∗ Out m ρ c 2 1 5 ∗ debt c 0)) := by
  rw [k0_part26_eq_skeleton]; unfold k0_part26_skel
  simp only [Prog.lift, Prog.bind_op, Prog.bind_ret, Prog.pure_eq_ret]
  iintro ⟨#HR, H1, H3, H0, H2, Ho⟩
  iapply (st_wait_out m ρ c 1 2 3 (by decide) (rfl : semP cc0_scratch4 1 _ = sndS 3 1) (N_acc _ _)) $$ [H1 Ho]
  · isplitr; · iexact HR
    isplitl [H1]; · iexact H1
    iexact Ho
  iintro ⟨H1, Ho⟩
  iapply (st_wait_out m ρ c 3 2 3 (by decide) (rfl : semP cc0_scratch4 3 _ = sndS 3 3) (N_acc _ _)) $$ [H3 Ho]
  · isplitr; · iexact HR
    isplitl [H3]; · iexact H3
    iexact Ho
  iintro ⟨H3, Ho⟩
  iapply (st_wait_out m ρ c 0 1 4 (by decide) (rfl : semP cc0_scratch4 4 _ = sndS 4 0) (N_acc _ _)) $$ [H0 Ho]
  · isplitr; · iexact HR
    isplitl [H0]; · iexact H0
    iexact Ho
  iintro ⟨H0, Ho⟩
  iapply (st_wait_out m ρ c 2 1 4 (by decide) (rfl : semP cc0_scratch4 6 _ = sndS 4 2) (N_acc _ _)) $$ [H2 Ho]
  · isplitr; · iexact HR
    isplitl [H2]; · iexact H2
    iexact Ho
  iintro ⟨H2, Ho⟩
  iapply (st_wait_out m ρ c 1 1 4 (by decide) (rfl : semP cc0_scratch4 5 _ = sndS 4 1) (N_acc _ _)) $$ [H1 Ho]
  · isplitr; · iexact HR
    isplitl [H1]; · iexact H1
    iexact Ho
  iintro ⟨H1, Ho⟩
  iapply (st_wait_out m ρ c 3 1 4 (by decide) (rfl : semP cc0_scratch4 7 _ = sndS 4 3) (N_acc _ _)) $$ [H3 Ho]
  · isplitr; · iexact HR
    isplitl [H3]; · iexact H3
    iexact Ho
  iintro ⟨H3, Ho⟩
  unfold Wp; rw [wp_ret]; imodintro
  isplitl [H1]; · iexact H1
  isplitl [H3]; · iexact H3
  isplitl [H0]; · iexact H0
  isplitl [H2]; · iexact H2
  iexact Ho

end Cert.AllReduce

end
-- ==== Proof.Body.lean ====
/-
  The body of the kernel on one device: its parts, one after the other.
-/
module

public import proofs.«01_k».proof.Proof.Parts

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program that ends in `post` may be followed by one that starts from it. -/
theorem seq (c : Dev nD) {α β : Type} (p : Prog (TpuEff nD τ sig (Elt F) Λ₀ .tc) α) (k : α → Prog (TpuEff nD τ sig (Elt F) Λ₀ .tc) β)
    {pre : sProp 𝕄} {post : α → sProp 𝕄} {Q : β → sProp 𝕄} (h : pre ⊢ Wp c p post) :
    pre ⊢ iprop((∀ a, post a -∗ Wp c (k a) Q) -∗ Wp c (p >>= k) Q) := by
  unfold Wp at h ⊢
  rw [wp_bind]
  exact h.trans (wp_wand _ _ _)

theorem ended (c : Dev nD) {α : Type} (a : α) {Q : α → sProp 𝕄} : Q a ⊢ Wp c (.ret a) Q := by
  unfold Wp; rw [wp_ret]; exact fupd_intro

/-- What the body starts from on device `c`. -/
def bodyIn (c : Dev nD) : sProp 𝕄 :=
  iprop((dutyTok ER (barCell (mv 2 1 c)) 0 true ∗ dutyTok ER (barCell (mv 0 1 c)) 0 false ∗ atPos ER (barCell c) 0 ∅ 0 ∗ cred (tallyAt (barCell c) () 2))
    ∗ (Ini (F := F) c 0 ∗ Ini (F := F) c 1 ∗ Ini (F := F) c 2 ∗ Ini (F := F) c 3)
    ∗ (slots (F := F) c 0 ∗ slots (F := F) c 1 ∗ slots (F := F) c 2 ∗ slots (F := F) c 3)
    ∗ (accAny (F := F) c (mv 0 0 c) ∗ accAny (F := F) c (mv 0 1 c) ∗ accAny (F := F) c (mv 0 2 c) ∗ accAny (F := F) c (mv 0 3 c))
    ∗ (outAny (F := F) c (mv 0 0 c) ∗ outAny (F := F) c (mv 0 1 c) ∗ outAny (F := F) c (mv 0 2 c) ∗ outAny (F := F) c (mv 0 3 c))
    ∗ xo m ρ c ∗ wo m ρ c ∗ debt c (O₀ c))

/-- What it leaves beside the waits for its copies out: the operands, the result, the landings done with, the row blocks (of
    three the right half) and the barrier at zero. -/
def bodyOut (c : Dev nD) : sProp 𝕄 :=
  iprop((xo m ρ c ∗ wo m ρ c)
    ∗ (outRow c (mv 0 0 c) (outAt m ρ) ∗ outRow c (mv 0 1 c) (outAt m ρ) ∗ outRow c (mv 0 2 c) (outAt m ρ) ∗ outRow c (mv 0 3 c) (outAt m ρ))
    ∗ (dn (dR (F := F) c 0) 6 ∗ dn (dR (F := F) c 1) 6 ∗ dn (dR (F := F) c 2) 6 ∗ dn (dR (F := F) c 3) 6)
    ∗ (accRow c (mv 0 0 c) fullShare.right (T m ρ 3) ∗ accRow c (mv 0 1 c) fullShare.right (T m ρ 3) ∗ accRow c (mv 0 2 c) fullShare (T m ρ 3)
        ∗ accRow c (mv 0 3 c) fullShare.right (T m ρ 3))
    ∗ semVal (barCell c) 0)

omit [FloatOps F] in
theorem bar_true (c : Dev nD) : barPay (F := F) c true = iprop(slots (F := F) (mv 0 1 c) 0 ∗ slots (mv 1 1 c) 1) := by
  unfold barPay; rw [if_pos rfl]
omit [FloatOps F] in
theorem bar_false (c : Dev nD) : barPay (F := F) c false = iprop(slots (F := F) (mv 2 1 c) 2 ∗ slots (mv 3 1 c) 3) := by
  unfold barPay; rw [if_neg Bool.false_ne_true]

/-- All parts, and three of the last four waits. -/
theorem part27 (c : Dev nD) :
    iprop(recs m ρ ∗ bodyIn m ρ c)
      ⊢ Wp c (k0_part27 xM (Memref.isWhole_whole _) wM (Memref.isWhole_whole _) oM (Memref.isWhole_whole _) aM (Memref.isWhole_whole _) bM (Memref.isWhole_whole _) cc0_scratch2 cc0_scratch3 cc0_scratch4 cc0_scratch5) (fun r => iprop(⌜r = c⌝ ∗ bodyOut m ρ c ∗ Out m ρ c 0 0 6 ∗ Out m ρ c 1 0 6 ∗ Out m ρ c 2 0 6 ∗ Out m ρ c 3 1 5 ∗ debt c 0)) := by
  have e : mv 0 1 (mv 2 1 c) = c ∧ mv 1 1 (mv 2 1 c) = c ∧ mv 2 1 (mv 0 1 c) = c ∧ mv 3 1 (mv 0 1 c) = c := by revert c; decide
  rw [k0_part27_eq_skeleton]; unfold k0_part27_skel bodyIn
  iintro ⟨#HR, ⟨T1, T2, Hat, Hcr⟩, ⟨I0, I1, I2, I3⟩, ⟨S0, S1, S2, S3⟩, ⟨A0, A1, A2, A3⟩, ⟨U0, U1, U2, U3⟩, Hx, Hw, Ho⟩
  iapply (seq c _ _ (part1 m ρ c)) $$ [T1 S0 S1 T2 S2 S3 Hx Hw A0 Hat Hcr Ho]
  · isplitr; · iexact HR
    isplitl [T1]; · iexact T1
    isplitl [S0 S1]
    · unfold barPay; rw [if_pos rfl, e.1, e.2.1]
      isplitl [S0]; · iexact S0
      iexact S1
    isplitl [T2]; · iexact T2
    isplitl [S2 S3]
    · unfold barPay; rw [if_neg Bool.false_ne_true, e.2.2.1, e.2.2.2]
      isplitl [S2]; · iexact S2
      iexact S3
    isplitl [Hx]; · iexact Hx
    isplitl [Hw]; · iexact Hw
    isplitl [A0]; · iexact A0
    isplitl [Hat]; · iexact Hat
    isplitl [Hcr]; · iexact Hcr
    iexact Ho
  iintro %r ⟨%hr, Hz, P2, P1, Hx, Hw, A0, Ho⟩
  obtain ⟨d0, v2, v4, v7, v28, c512⟩ := r
  have hr : d0 = c := hr
  subst hr
  ihave A0 := (Entails.of_eq (accRow_pieces d0 (mv 0 0 d0) fullShare (P m ρ d0))) $$ A0
  ihave P1 := (Entails.of_eq (bar_true d0)) $$ P1
  ihave P2 := (Entails.of_eq (bar_false d0)) $$ P2
  icases P1 with ⟨S0, S1⟩
  icases P2 with ⟨S2, S3⟩
  icases A0 with ⟨A00, A01, A02, A03⟩
  ihave H0 := (ini_rdy m ρ d0 0) $$ [I0 S0 A00]
  · isplitl [I0]; · iexact I0
    isplitl [S0]; · iexact S0
    iexact A00
  ihave H1 := (ini_rdy m ρ d0 1) $$ [I1 S1 A01]
  · isplitl [I1]; · iexact I1
    isplitl [S1]; · iexact S1
    iexact A01
  ihave H2 := (ini_rdy m ρ d0 2) $$ [I2 S2 A02]
  · isplitl [I2]; · iexact I2
    isplitl [S2]; · iexact S2
    iexact A02
  ihave H3 := (ini_rdy m ρ d0 3) $$ [I3 S3 A03]
  · isplitl [I3]; · iexact I3
    isplitl [S3]; · iexact S3
    iexact A03
  iapply (seq d0 _ _ (part2 m ρ d0 _ _ _ _ _)) $$ [H0 H1 Ho]
  · isplitr; · iexact HR
    isplitl [H0]; · iexact H0
    isplitl [H1]; · iexact H1
    iexact Ho
  iintro %r ⟨H0, H1, Ho⟩
  iapply (seq d0 _ _ (part3 m ρ d0 _ _)) $$ [H2 H3 Hx Hw A1 Ho]
  · isplitr; · iexact HR
    isplitl [H2]; · iexact H2
    isplitl [H3]; · iexact H3
    isplitl [Hx]; · iexact Hx
    isplitl [Hw]; · iexact Hw
    isplitl [A1]; · iexact A1
    iexact Ho
  iintro %r ⟨H2, H3, Hx, Hw, A1, Ho⟩
  iapply (seq d0 _ _ (part4 m ρ d0 _ _ _)) $$ [H0 Hx Hw A3 A2 Ho]
  · isplitr; · iexact HR
    isplitl [H0]; · iexact H0
    isplitl [Hx]; · iexact Hx
    isplitl [Hw]; · iexact Hw
    isplitl [A3]; · iexact A3
    isplitl [A2]; · iexact A2
    iexact Ho
  iintro %r ⟨H0, Hx, Hw, A3, A2, Ho⟩
  ihave X := (rows_sorted m ρ d0) $$ [A1 A2 A3]
  · isplitl [A1]; · iexact A1
    isplitl [A2]; · iexact A2
    iexact A3
  icases X with ⟨X0, X1, X2, X3⟩
  ihave H0 := (got_swap m ρ d0 0 iprop(emp) (up (pc m ρ d0 0) 3 0) 5 0) $$ [H0 X0]
  · isplitl [H0]; · iexact H0
    iexact X0
  icases H0 with ⟨H0, -⟩
  ihave H1 := (snt_swap d0 1 iprop(emp) (up (pc m ρ d0 1) 3 0) 5 0) $$ [H1 X1]
  · isplitl [H1]; · iexact H1
    iexact X1
  icases H1 with ⟨H1, -⟩
  ihave H2 := (snt_swap d0 2 iprop(emp) (up (pc m ρ d0 2) 3 0) 5 0) $$ [H2 X2]
  · isplitl [H2]; · iexact H2
    iexact X2
  icases H2 with ⟨H2, -⟩
  ihave H3 := (snt_swap d0 3 iprop(emp) (up (pc m ρ d0 3) 3 0) 5 0) $$ [H3 X3]
  · isplitl [H3]; · iexact H3
    iexact X3
  icases H3 with ⟨H3, -⟩
  iapply (seq d0 _ _ (part5 m ρ d0 _ _ _ _)) $$ [H0 H2 Ho]
  · isplitr; · iexact HR
    isplitl [H0]; · iexact H0
    isplitl [H2]; · iexact H2
    iexact Ho
  iintro %r ⟨H0, H2, Ho⟩
  iapply (seq d0 _ _ (part6 m ρ d0 _ _ _ _ _)) $$ [H2 H1 Ho]
  · isplitr; · iexact HR
    isplitl [H2]; · iexact H2
    isplitl [H1]; · iexact H1
    iexact Ho
  iintro %r ⟨H2, H1, Ho⟩
  iapply (seq d0 _ _ (part7 m ρ d0 _ _ _ _)) $$ [H1 H3 Ho]
  · isplitr; · iexact HR
    isplitl [H1]; · iexact H1
    isplitl [H3]; · iexact H3
    iexact Ho
  iintro %r ⟨H1, H3, Ho⟩
  iapply (seq d0 _ _ (part8 m ρ d0 _ _ _ _)) $$ [H3 H0 Ho]
  · isplitr; · iexact HR
    isplitl [H3]; · iexact H3
    isplitl [H0]; · iexact H0
    iexact Ho
  iintro %r ⟨H3, H0, Ho⟩
  iapply (seq d0 _ _ (part9 m ρ d0 _ _ _)) $$ [H0 Ho]
  · isplitr; · iexact HR
    isplitl [H0]; · iexact H0
    iexact Ho
  iintro %r ⟨H0, Ho⟩
  iapply (seq d0 _ _ (part10 m ρ d0 _ _ _)) $$ [H2 Ho]
  · isplitr; · iexact HR
    isplitl [H2]; · iexact H2
    iexact Ho
  iintro %r ⟨H2, Ho⟩
  iapply (seq d0 _ _ (part11 m ρ d0 _ _ _)) $$ [H1 Ho]
  · isplitr; · iexact HR
    isplitl [H1]; · iexact H1
    iexact Ho
  iintro %r ⟨H1, Ho⟩
  iapply (seq d0 _ _ (part12 m ρ d0 _ _ _)) $$ [H3 Ho]
  · isplitr; · iexact HR
    isplitl [H3]; · iexact H3
    iexact Ho
  iintro %r ⟨H3, Ho⟩
  iapply (seq d0 _ _ (part13 m ρ d0 _ _ _)) $$ [H0 Ho]
  · isplitr; · iexact HR
    isplitl [H0]; · iexact H0
    iexact Ho
  iintro %r ⟨H0, R03, Ho⟩
  iapply (seq d0 _ _ (part14 m ρ d0 _ _ _)) $$ [H2 H1 Ho]
  · isplitr; · iexact HR
    isplitl [H2]; · iexact H2
    isplitl [H1]; · iexact H1
    iexact Ho
  iintro %r ⟨H2, H1, R23, Ho⟩
  iapply (seq d0 _ _ (part15 m ρ d0 _ _ _)) $$ [H1 H3 Ho]
  · isplitr; · iexact HR
    isplitl [H1]; · iexact H1
    isplitl [H3]; · iexact H3
    iexact Ho
  iintro %r ⟨H1, H3, R13, Ho⟩
  iapply (seq d0 _ _ (part16 m ρ d0 _ _ _ _)) $$ [H3 H0 Ho]
  · isplitr; · iexact HR
    isplitl [H3]; · iexact H3
    isplitl [H0]; · iexact H0
    iexact Ho
  iintro %r ⟨H3, H0, R33, Ho⟩
  iapply (seq d0 _ _ (part17 m ρ d0 _ _ _)) $$ [H0 H2 Ho]
  · isplitr; · iexact HR
    isplitl [H0]; · iexact H0
    isplitl [H2]; · iexact H2
    iexact Ho
  iintro %r ⟨H0, H2, R04, R24, Ho⟩
  iapply (seq d0 _ _ (part18 m ρ d0 _ _ _)) $$ [H1 H3 Ho]
  · isplitr; · iexact HR
    isplitl [H1]; · iexact H1
    isplitl [H3]; · iexact H3
    iexact Ho
  iintro %r ⟨H1, H3, R14, R34, Ho⟩
  ihave B0 := (row_right m ρ d0 (mv 0 0 d0) 4 4 4 4 (by clear e hr; revert d0; decide)) $$ [R04 R14 R24 R34]
  · isplitl [R04]; · iexact R04
    isplitl [R14]; · iexact R14
    isplitl [R24]; · iexact R24
    iexact R34
  iapply (seq d0 _ _ (part19 m ρ d0 _ _ _ _)) $$ [H0 H2 B0 U0 Ho]
  · isplitr; · iexact HR
    isplitl [H0]; · iexact H0
    isplitl [H2]; · iexact H2
    isplitl [B0]; · iexact B0
    isplitl [U0]; · iexact U0
    iexact Ho
  iintro %r ⟨H0, H2, R05, B0, U0, Ho⟩
  iapply (seq d0 _ _ (part20 m ρ d0 _ _ _ _ _)) $$ [H2 H1 Ho]
  · isplitr; · iexact HR
    isplitl [H2]; · iexact H2
    isplitl [H1]; · iexact H1
    iexact Ho
  iintro %r ⟨H2, H1, R25, R15, Ho⟩
  ihave B3 := (row_right m ρ d0 (mv 0 3 d0) 5 5 3 3 (by clear e hr; revert d0; decide)) $$ [R05 R15 R23 R33]
  · isplitl [R05]; · iexact R05
    isplitl [R15]; · iexact R15
    isplitl [R23]; · iexact R23
    iexact R33
  iapply (seq d0 _ _ (part21 m ρ d0 _ _ _)) $$ [H3 R03 R13 R25 B3 U1 U3 Ho]
  · isplitr; · iexact HR
    isplitl [H3]; · iexact H3
    isplitl [R03]; · iexact R03
    isplitl [R13]; · iexact R13
    isplitl [R25]; · iexact R25
    isplitl [B3]; · iexact B3
    isplitl [U1]; · iexact U1
    isplitl [U3]; · iexact U3
    iexact Ho
  iintro %r ⟨H3, B1, U1, B3, U3, Ho⟩
  iapply (seq d0 _ _ (part22 m ρ d0 _ _ _)) $$ [H0 H2 H1 H3 U2 Ho]
  · isplitr; · iexact HR
    isplitl [H0]; · iexact H0
    isplitl [H2]; · iexact H2
    isplitl [H1]; · iexact H1
    isplitl [H3]; · iexact H3
    isplitl [U2]; · iexact U2
    iexact Ho
  iintro %r ⟨H0, H2, H1, H3, D0, D1, D2, D3, B2, U2, Ho⟩
  iapply (seq d0 _ _ (part23 m ρ d0)) $$ [H0 H1 H2 H3 Ho]
  · isplitr; · iexact HR
    isplitl [H0]; · iexact H0
    isplitl [H1]; · iexact H1
    isplitl [H2]; · iexact H2
    isplitl [H3]; · iexact H3
    iexact Ho
  iintro %r ⟨H0, H1, H2, H3, Ho⟩
  iapply (seq d0 _ _ (part24 m ρ d0)) $$ [H0 H2 H1 H3 Ho]
  · isplitr; · iexact HR
    isplitl [H0]; · iexact H0
    isplitl [H2]; · iexact H2
    isplitl [H1]; · iexact H1
    isplitl [H3]; · iexact H3
    iexact Ho
  iintro %r ⟨H0, H2, H1, H3, Ho⟩
  iapply (seq d0 _ _ (part25 m ρ d0)) $$ [H2 H1 H3 H0 Ho]
  · isplitr; · iexact HR
    isplitl [H2]; · iexact H2
    isplitl [H1]; · iexact H1
    isplitl [H3]; · iexact H3
    isplitl [H0]; · iexact H0
    iexact Ho
  iintro %r ⟨H2, H1, H3, H0, Ho⟩
  iapply (seq d0 _ _ (part26 m ρ d0)) $$ [H1 H3 H0 H2 Ho]
  · isplitr; · iexact HR
    isplitl [H1]; · iexact H1
    isplitl [H3]; · iexact H3
    isplitl [H0]; · iexact H0
    isplitl [H2]; · iexact H2
    iexact Ho
  iintro %r ⟨H1, H3, H0, H2, Ho⟩
  iapply (st_wait_out m ρ d0 0 0 5 (by decide) (rfl : semP cc0_scratch4 8 _ = sndS 5 0) (N_acc _ _)) $$ [H0 Ho]
  · isplitr; · iexact HR
    isplitl [H0]; · iexact H0
    iexact Ho
  iintro ⟨H0, Ho⟩
  iapply (st_wait_out m ρ d0 2 0 5 (by decide) (rfl : semP cc0_scratch4 10 _ = sndS 5 2) (N_acc _ _)) $$ [H2 Ho]
  · isplitr; · iexact HR
    isplitl [H2]; · iexact H2
    iexact Ho
  iintro ⟨H2, Ho⟩
  iapply (st_wait_out m ρ d0 1 0 5 (by decide) (rfl : semP cc0_scratch4 9 _ = sndS 5 1) (N_acc _ _)) $$ [H1 Ho]
  · isplitr; · iexact HR
    isplitl [H1]; · iexact H1
    iexact Ho
  iintro ⟨H1, Ho⟩
  iapply (ended d0 d0)
  isplitr; · ipureintro; rfl
  isplitl [Hx Hw U0 U1 U2 U3 D0 D1 D2 D3 B0 B1 B2 B3 Hz]
  · unfold bodyOut
    isplitl [Hx Hw]
    · isplitl [Hx]; · iexact Hx
      iexact Hw
    isplitl [U0 U1 U2 U3]
    · isplitl [U0]; · iexact U0
      isplitl [U1]; · iexact U1
      isplitl [U2]; · iexact U2
      iexact U3
    isplitl [D0 D1 D2 D3]
    · isplitl [D0]; · iexact D0
      isplitl [D1]; · iexact D1
      isplitl [D2]; · iexact D2
      iexact D3
    isplitl [B0 B1 B2 B3]
    · isplitl [B0]; · iexact B0
      isplitl [B1]; · iexact B1
      isplitl [B2]; · iexact B2
      iexact B3
    iexact Hz
  isplitl [H0]; · iexact H0
  isplitl [H1]; · iexact H1
  isplitl [H2]; · iexact H2
  isplitl [H3]; · iexact H3
  iexact Ho

/-- The body: what each column block leaves is its copies out, all waited for. -/
theorem body_run (c : Dev nD) :
    iprop(recs m ρ ∗ bodyIn m ρ c)
      ⊢ Wp c (cc0_body xM (Memref.isWhole_whole _) wM (Memref.isWhole_whole _) oM (Memref.isWhole_whole _) aM (Memref.isWhole_whole _) bM (Memref.isWhole_whole _) cc0_scratch2 cc0_scratch3 cc0_scratch4 cc0_scratch5) (fun _ => iprop(bodyOut m ρ c ∗ Out m ρ c 0 0 6 ∗ Out m ρ c 1 0 6 ∗ Out m ρ c 2 0 6 ∗ Out m ρ c 3 0 6 ∗ debt c 0)) := by
  rw [cc0_body_eq_skeleton]; unfold cc0_body_skel
  iintro ⟨#HR, Hin⟩
  iapply (seq c _ _ (part27 m ρ c)) $$ [Hin]
  · isplitr; · iexact HR
    iexact Hin
  iintro %r ⟨%hr, Hout, H0, H1, H2, H3, Ho⟩
  subst hr
  simp only [Prog.lift, Prog.bind_op, Prog.bind_ret, Prog.pure_eq_ret]
  iapply (st_wait_out m ρ r 3 0 5 (by decide) (rfl : semP cc0_scratch4 11 _ = sndS 5 3) (N_acc _ _)) $$ [H3 Ho]
  · isplitr; · iexact HR
    isplitl [H3]; · iexact H3
    iexact Ho
  iintro ⟨H3, Ho⟩
  unfold Wp; rw [wp_ret]; imodintro
  isplitl [Hout]; · iexact Hout
  isplitl [H0]; · iexact H0
  isplitl [H1]; · iexact H1
  isplitl [H2]; · iexact H2
  isplitl [H3]; · iexact H3
  iexact Ho

end Cert.AllReduce

end
-- ==== Proof.Cells.lean ====
/-
  The semaphores of a device counted through once per column block and hop; the scratch buffers and the result cut into
  their rows and slots and put together again.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Counting through the semaphores -/

omit [FloatOps F] in
theorem sep_four (A B C D : sProp 𝕄) : iprop((A ∗ B) ∗ (C ∗ D)) = iprop((A ∗ C) ∗ (B ∗ D)) := by
  have one : ∀ A B C D : sProp 𝕄, iprop((A ∗ B) ∗ (C ∗ D)) ⊢ iprop((A ∗ C) ∗ (B ∗ D)) := by
    intro A B C D
    iintro ⟨⟨H1, H2⟩, H3, H4⟩
    isplitl [H1 H3]
    · isplitl [H1]; · iexact H1
      iexact H3
    isplitl [H2]; · iexact H2
    iexact H4
  exact BI.equiv_iff.mp ⟨one A B C D, one A C B D⟩

omit [FloatOps F] in
theorem up_sep (f g : ℕ → sProp 𝕄) (n a : ℕ) : up (fun h => iprop(f h ∗ g h)) n a = iprop(up f n a ∗ up g n a) := by
  induction n generalizing a with
  | zero => exact (BI.equiv_iff.mp BI.sep_emp).symm
  | succ n ih => rw [up_succ, up_succ, up_succ, ih, sep_four]

omit [FloatOps F] in
theorem up_congr {f g : ℕ → sProp 𝕄} (n a : ℕ) (e : ∀ h, h < a + n → f h = g h) : up f n a = up g n a := by
  induction n generalizing a with
  | zero => rfl
  | succ n ih => rw [up_succ, up_succ, e a (by omega), ih (a + 1) fun h hh => e h (by omega)]

omit [FloatOps F] in
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep6 (f : ℕ → sProp 𝕄) : (bigSep Finset.univ fun h : Fin 6 => f h.val) = up f 6 0 := by
  rw [bigSep_univ_eq_bigSepL [0, 1, 2, 3, 4, 5] (by decide) (by decide)]
  show iprop(f 0 ∗ f 1 ∗ f 2 ∗ f 3 ∗ f 4 ∗ f 5) = iprop(f 0 ∗ f 1 ∗ f 2 ∗ f 3 ∗ f 4 ∗ f 5 ∗ emp)
  have e : iprop(f 5 ∗ emp) = f 5 := BI.equiv_iff.mp BI.sep_emp
  rw [e]

set_option backward.proofsInPublic true in
/-- The kernel's own semaphores: the DMA semaphores from number 3 on. -/
def osem (i : Fin 48) : SemLoc sig := .dma ((⟨(i.val + 3) % 51, Nat.mod_lt _ (by decide)⟩ : Fin 51) : DmaSem sig)

set_option backward.proofsInPublic true in
/-- The number among them of column block `q`'s semaphore of hop `h` for copies out (`false`), for copies in (`true`). -/
def jx (p : Fin 4 × Bool × Fin 6) : Fin 48 :=
  ⟨24 * (p.2.2.val / 3) + (if p.2.1 then 12 else 0) + 4 * (p.2.2.val % 3) + p.1.val, by
    have h1 := p.1.isLt; have h2 := p.2.2.isLt; split <;> omega⟩

set_option maxRecDepth 20000 in
theorem jx_inj : Function.Injective jx :=
  Function.LeftInverse.injective (g := fun i : Fin 48 =>
      ((⟨i.val % 4, Nat.mod_lt _ (by decide)⟩, (i.val / 12) % 2 == 1, ⟨((i.val % 12) / 4 + 3 * (i.val / 24)) % 6, Nat.mod_lt _ (by decide)⟩) : Fin 4 × Bool × Fin 6))
    (by unfold Function.LeftInverse; decide)

/-- All of them, once per column block, direction of travel and hop. -/
def jxE : Fin 4 × Bool × Fin 6 ≃ Fin 48 :=
  Equiv.ofBijective jx ((Fintype.bijective_iff_injective_and_card jx).mpr ⟨jx_inj, by rfl⟩)

set_option maxRecDepth 20000 in
theorem osem_jx : ∀ (q : Fin 4) (h : Fin 6), osem (jx (q, false, h)) = .dma (sndS h.val q) ∧ osem (jx (q, true, h)) = .dma (rcvS h.val q) := by decide

omit [FloatOps F] in
/-- Something held of each own semaphore, counted through by column block and hop. -/
theorem own_cells (Ψ : SemLoc sig → sProp 𝕄) :
    (bigSep Finset.univ fun i : Fin 48 => Ψ (osem i))
      = bigSep Finset.univ fun q : Fin 4 => iprop(up (fun h => Ψ (.dma (sndS h q))) 6 0 ∗ up (fun h => Ψ (.dma (rcvS h q))) 6 0) := by
  rw [bigSep_univ_equiv jxE, bigSep_univ_prod]
  refine bigSep_congr fun q _ => ?_
  rw [bigSep_univ_prod, bigSep_univ_eq_bigSepL [false, true] (by decide) (by decide), bigSepL_cons_cons, bigSepL_singleton, ← bigSep6, ← bigSep6]
  exact congrArg₂ _ (bigSep_congr fun h _ => congrArg Ψ (osem_jx q h).1) (bigSep_congr fun h _ => congrArg Ψ (osem_jx q h).2)

theorem csem_succ (i : Fin 48) : csem i.succ = osem i := by
  unfold csem osem
  rw [if_neg (by simp)]
  rfl

omit [FloatOps F] in
/-- The same with the barrier in front. -/
theorem all_cells (Ψ : SemLoc sig → sProp 𝕄) :
    (bigSep Finset.univ fun i : Fin 49 => Ψ (csem i))
      = iprop(Ψ (.reg barS) ∗ bigSep Finset.univ fun q : Fin 4 => iprop(up (fun h => Ψ (.dma (sndS h q))) 6 0 ∗ up (fun h => Ψ (.dma (rcvS h q))) 6 0)) := by
  rw [← own_cells, Fin.univ_succ, Finset.cons_eq_insert, bigSep_insert (by simp [Fin.succ_ne_zero]), bigSep_map]
  exact congrArg₂ _ rfl (bigSep_congr fun i _ => congrArg Ψ (csem_succ i))

theorem csem_inj : Function.Injective csem := by
  intro i j e
  have hi := i.isLt; have hj := j.isLt
  unfold csem at e
  by_cases h0 : i.val = 0 <;> by_cases h1 : j.val = 0
  · exact Fin.ext (h0.trans h1.symm)
  · rw [if_pos h0, if_neg h1] at e; cases e
  · rw [if_neg h0, if_pos h1] at e; cases e
  · rw [if_neg h0, if_neg h1] at e
    have e' := congrArg Fin.val (SemLoc.dma.inj e)
    apply Fin.ext
    change (i.val + 2) % 51 = (j.val + 2) % 51 at e'
    omega

/-! ## Rows and slots -/

omit [FloatOps F] in
/-- A buffer that is four disjoint parts is those parts, counted from any of them. -/
theorem four_parts (c : Dev nD) {ℓ : Loc nD τ sig} (K : Fin 4 → Finset (Idx ℓ)) (hu : Finset.univ = Finset.univ.biUnion K)
    (hd : ∀ k k', k ≠ k' → Disjoint (K k) (K k')) (f : Buf (Elt F) ℓ) :
    (ℓ ↦{fullShare} f : sProp 𝕄)
      = iprop((ℓ ↦[K (mv 0 0 c)]{fullShare} f) ∗ (ℓ ↦[K (mv 0 1 c)]{fullShare} f) ∗ (ℓ ↦[K (mv 0 2 c)]{fullShare} f) ∗ (ℓ ↦[K (mv 0 3 c)]{fullShare} f)) := by
  have e := pointsTo_biUnion (sig := sig) (Ix := Unit) (Val := Elt F) (Name := ℕ) (U := UU) (Lvl := ℕ) (ℓ := ℓ) (q := fullShare) (f := f) Finset.univ K
    (fun k _ k' _ h => hd k k' h)
  rw [← hu] at e
  refine e.trans ?_
  rw [bigSep_univ_eq_bigSepL [mv 0 0 c, mv 0 1 c, mv 0 2 c, mv 0 3 c] (by revert c; decide) (by revert c; decide)]
  rfl

theorem rows_all : (Finset.univ : Finset S2048x2048.Idx) = Finset.univ.biUnion rSet := by ext i; simp [mem_rSet]
theorem rows_disjoint (k k' : Fin 4) (h : k ≠ k') : Disjoint (rSet k) (rSet k') :=
  Finset.disjoint_left.mpr fun i a b => h ((mem_rSet.mp a).symm.trans (mem_rSet.mp b))

omit [FloatOps F] in
theorem acc_rows (c : Dev nD) (V : S2048x2048.Idx → Elt F .bf16) :
    (((c : Thread nD τ).loc cc0_scratch0) ↦{fullShare} (V : Buf (Elt F) ((c : Thread nD τ).loc cc0_scratch0)) : sProp 𝕄)
      = iprop(accRow c (mv 0 0 c) fullShare V ∗ accRow c (mv 0 1 c) fullShare V ∗ accRow c (mv 0 2 c) fullShare V ∗ accRow c (mv 0 3 c) fullShare V) :=
  four_parts c (ℓ := (c : Thread nD τ).loc cc0_scratch0) rSet rows_all rows_disjoint V

omit [FloatOps F] in
theorem out_rows (c : Dev nD) (V : S2048x2048.Idx → Elt F .f32) :
    (((c : Thread nD τ).loc cc0_stg2_0) ↦{fullShare} (V : Buf (Elt F) ((c : Thread nD τ).loc cc0_stg2_0)) : sProp 𝕄)
      = iprop(outRow c (mv 0 0 c) V ∗ outRow c (mv 0 1 c) V ∗ outRow c (mv 0 2 c) V ∗ outRow c (mv 0 3 c) V) :=
  four_parts c (ℓ := (c : Thread nD τ).loc cc0_stg2_0) rSet rows_all rows_disjoint V

theorem slots_all : (Finset.univ : Finset S12x512x512.Idx) = Finset.univ.biUnion fun n : Fin 12 => sSet n.val := by
  ext i
  simp only [Finset.mem_univ, Finset.mem_biUnion, mem_sSet, true_and, true_iff]
  exact ⟨⟨(i 0).val, (i 0).isLt⟩, rfl⟩
theorem slots_disjoint (n n' : Fin 12) (h : n ≠ n') : Disjoint (sSet n.val) (sSet n'.val) :=
  Finset.disjoint_left.mpr fun i a b => h (Fin.ext ((mem_sSet.mp a).symm.trans (mem_sSet.mp b)))

omit [FloatOps F] in
/-- The slots of the four column blocks are the twelve slots. -/
theorem slots_twelve (c : Dev nD) :
    (bigSep Finset.univ fun n : Fin 12 => slotAny (F := F) c n.val) ⊣⊢ iprop(slots (F := F) c 0 ∗ slots (F := F) c 1 ∗ slots (F := F) c 2 ∗ slots (F := F) c 3) := by
  rw [bigSep_univ_eq_bigSepL [0, 4, 8, 1, 5, 9, 2, 6, 10, 3, 7, 11] (by decide) (by decide)]
  show iprop(slotAny (F := F) c 0 ∗ slotAny (F := F) c 4 ∗ slotAny (F := F) c 8 ∗ slotAny (F := F) c 1 ∗ slotAny (F := F) c 5 ∗ slotAny (F := F) c 9
      ∗ slotAny (F := F) c 2 ∗ slotAny (F := F) c 6 ∗ slotAny (F := F) c 10 ∗ slotAny (F := F) c 3 ∗ slotAny (F := F) c 7 ∗ slotAny (F := F) c 11)
    ⊣⊢ iprop((slotAny (F := F) c 0 ∗ slotAny (F := F) c 4 ∗ slotAny (F := F) c 8) ∗ (slotAny (F := F) c 1 ∗ slotAny (F := F) c 5 ∗ slotAny (F := F) c 9)
      ∗ (slotAny (F := F) c 2 ∗ slotAny (F := F) c 6 ∗ slotAny (F := F) c 10) ∗ (slotAny (F := F) c 3 ∗ slotAny (F := F) c 7 ∗ slotAny (F := F) c 11))
  have flat : ∀ A B C R : sProp 𝕄, iprop((A ∗ B ∗ C) ∗ R) = iprop(A ∗ B ∗ C ∗ R) := fun A B C R => by
    have one : iprop((A ∗ B ∗ C) ∗ R) ⊢ iprop(A ∗ B ∗ C ∗ R) := by
      iintro ⟨⟨H1, H2, H3⟩, H4⟩
      isplitl [H1]; · iexact H1
      isplitl [H2]; · iexact H2
      isplitl [H3]; · iexact H3
      iexact H4
    have two : iprop(A ∗ B ∗ C ∗ R) ⊢ iprop((A ∗ B ∗ C) ∗ R) := by
      iintro ⟨H1, H2, H3, H4⟩
      isplitr [H4]
      · isplitl [H1]; · iexact H1
        isplitl [H2]; · iexact H2
        iexact H3
      iexact H4
    exact BI.equiv_iff.mp ⟨one, two⟩
  rw [flat, flat, flat]

omit [FloatOps F] in
/-- The receive buffer is the slots of the four column blocks, whatever they hold. -/
theorem recv_slots (c : Dev nD) :
    iprop(∃ f, ((c : Thread nD τ).loc cc0_scratch1) ↦{fullShare} (f : Buf (Elt F) ((c : Thread nD τ).loc cc0_scratch1)))
      ⊢ (iprop(slots (F := F) c 0 ∗ slots (F := F) c 1 ∗ slots (F := F) c 2 ∗ slots (F := F) c 3) : sProp 𝕄) := by
  refine BIBase.Entails.trans ?_ (slots_twelve c).1
  iintro ⟨%f, H⟩
  have e := pointsTo_biUnion (sig := sig) (Ix := Unit) (Val := Elt F) (Name := ℕ) (U := UU) (Lvl := ℕ) (ℓ := (c : Thread nD τ).loc cc0_scratch1) (q := fullShare) (f := f)
    Finset.univ (fun n : Fin 12 => sSet n.val) (fun n _ n' _ h => slots_disjoint n n' h)
  have hu : (Finset.univ : Finset (Idx ((c : Thread nD τ).loc cc0_scratch1))) = Finset.univ.biUnion fun n : Fin 12 => sSet n.val := slots_all
  rw [← hu] at e
  ihave H := (Entails.of_eq e) $$ H
  have h : (bigSep Finset.univ fun n : Fin 12 => slot (F := F) c n.val f) ⊢ bigSep Finset.univ fun n : Fin 12 => slotAny (F := F) c n.val :=
    bigSep_mono fun n _ => show slot (F := F) c n.val f ⊢ iprop(∃ f, slot (F := F) c n.val f) from exists_intro f
  iapply h
  unfold slot
  iexact H

omit [FloatOps F] in
include m in
theorem slots_recv (c : Dev nD) :
    (iprop(slots (F := F) c 0 ∗ slots (F := F) c 1 ∗ slots (F := F) c 2 ∗ slots (F := F) c 3) : sProp 𝕄)
      ⊢ iprop(∃ f, ((c : Thread nD τ).loc cc0_scratch1) ↦{fullShare} (f : Buf (Elt F) ((c : Thread nD τ).loc cc0_scratch1))) := by
  haveI : Nonempty (Elt F .bf16) := ⟨(m ((c : Thread nD τ).loc cc0_scratch1) : S12x512x512.Idx → Elt F .bf16) fun a : Fin 3 => ⟨0, by revert a; clear m; decide +revert⟩⟩
  have h : (bigSep Finset.univ fun n : Fin 12 => slotAny (F := F) c n.val)
      ⊢ iprop(∃ fs : Fin 12 → S12x512x512.Idx → Elt F .bf16, bigSep Finset.univ fun n : Fin 12 => slot (F := F) c n.val (fs n)) := by
    unfold slotAny
    exact BI.bigSep_exists_pi Finset.univ (fun (n : Fin 12) (f : S12x512x512.Idx → Elt F .bf16) => (slot (F := F) c n.val f : sProp 𝕄))
  refine ((slots_twelve c).2.trans h).trans ?_
  iintro H
  icases H with ⟨%fs, H⟩
  have hu : (Finset.univ : Finset (Idx ((c : Thread nD τ).loc cc0_scratch1))) = Finset.univ.biUnion fun n : Fin 12 => sSet n.val := slots_all
  ihave H := (pointsTo_biUnion_join (sig := sig) (Ix := Unit) (Val := Elt F) (Name := ℕ) (U := UU) (Lvl := ℕ) (ℓ := (c : Thread nD τ).loc cc0_scratch1) (q := fullShare)
    Finset.univ (fun n : Fin 12 => sSet n.val) fs (fs 0) (fun n _ n' _ h => slots_disjoint n n' h)) $$ [H]
  · unfold slot; iexact H
  icases H with ⟨%g, -, H⟩
  iexists g
  rw [← hu]
  iexact H

omit [FloatOps F] in
theorem row_halves (c : Dev nD) (k : Fin 4) (V : S2048x2048.Idx → Elt F .bf16) :
    accRow c k fullShare V = iprop(accRow c k fullShare.left V ∗ accRow c k fullShare.right V) := by
  unfold accRow
  have e := pointsTo_share (sig := sig) (Ix := Unit) (Val := Elt F) (Name := ℕ) (U := UU) (Lvl := ℕ) (ℓ := (c : Thread nD τ).loc cc0_scratch0) (I := rSet k)
    (f := (V : Buf (Elt F) ((c : Thread nD τ).loc cc0_scratch0))) (PosShare.mem_left_op_right fullShare)
  exact BI.equiv_iff.mp ⟨e.1, e.2⟩

/-! ## After the body -/

/-- What one column block leaves: its semaphores at zero, its slots, and the halves of three of its pieces that were read
    while they were copied out. -/
theorem col_done (c : Dev nD) (q : Fin 4) :
    iprop(Out m ρ c q 0 6 ∗ dn (dR (F := F) c q) 6)
      ⊢ iprop((up (fun h => semVal (sndCell c h q) 0) 6 0 ∗ up (fun h => semVal (rcvCell c h q) 0) 6 0) ∗ slots (F := F) c q
          ∗ acc c (mv 0 0 c) q fullShare.left (T m ρ 3) ∗ acc c (mv 0 1 c) q fullShare.left (T m ρ 3) ∗ acc c (mv 0 3 c) q fullShare.left (T m ρ 3)) := by
  have e : (blk q 3 c = mv 0 1 c ∧ blk q 4 c = mv 0 0 c ∧ blk q 5 c = mv 0 3 c) ∨ (blk q 3 c = mv 0 3 c ∧ blk q 4 c = mv 0 0 c ∧ blk q 5 c = mv 0 1 c) := by
    revert q c; decide
  unfold Out dE dR sndPay slots
  simp only [up_succ, dn_succ, if_pos (show 0 < 3 by decide), if_pos (show 1 < 3 by decide), if_pos (show 2 < 3 by decide),
    if_neg (show ¬ 3 < 3 by decide), if_neg (show ¬ 4 < 3 by decide), if_neg (show ¬ 5 < 3 by decide)]
  iintro ⟨⟨-, ⟨S5, A5⟩, ⟨S4, A4⟩, ⟨S3, A3⟩, ⟨S2, -⟩, ⟨S1, -⟩, ⟨S0, -⟩, -⟩, ⟨R5, -⟩, ⟨R4, -⟩, ⟨R3, -⟩, ⟨R2, B2⟩, ⟨R1, B1⟩, ⟨R0, B0⟩, -⟩
  isplitl [S0 S1 S2 S3 S4 S5 R0 R1 R2 R3 R4 R5]
  · isplitl [S0 S1 S2 S3 S4 S5]
    · isplitl [S0]; · iexact S0
      isplitl [S1]; · iexact S1
      isplitl [S2]; · iexact S2
      isplitl [S3]; · iexact S3
      isplitl [S4]; · iexact S4
      isplitl [S5]; · iexact S5
      iempintro
    isplitl [R0]; · iexact R0
    isplitl [R1]; · iexact R1
    isplitl [R2]; · iexact R2
    isplitl [R3]; · iexact R3
    isplitl [R4]; · iexact R4
    isplitl [R5]; · iexact R5
    iempintro
  isplitl [B0 B1 B2]
  · isplitl [B0]; · iexact B0
    isplitl [B1]; · iexact B1
    iexact B2
  rcases e with e | e
  · rw [e.1, e.2.1, e.2.2]
    isplitl [A4]; · iexact A4
    isplitl [A3]; · iexact A3
    iexact A5
  · rw [e.1, e.2.1, e.2.2]
    isplitl [A4]; · iexact A4
    isplitl [A5]; · iexact A5
    iexact A3

/-- After the body: the barrier and the kernel's own semaphores at zero, the scratch buffers whole. -/
def Φ₁ (c : Dev nD) : sProp 𝕄 :=
  iprop(semVal (barCell c) 0 ∗ Pipeline.ownSems0 (Ix := Unit) (Name := ℕ) (U := UU) (Lvl := ℕ) (Val := Elt F) (τ := τ) osem c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The result staging buffer of device `c`, whole, at the sum. -/
def outWhole (c : Dev nD) : sProp 𝕄 :=
  ((c : Thread nD τ).loc cc0_stg2_0) ↦{fullShare} (outAt m ρ : Buf (Elt F) ((c : Thread nD τ).loc cc0_stg2_0))

theorem finish (c : Dev nD) :
    iprop(bodyOut m ρ c ∗ Out m ρ c 0 0 6 ∗ Out m ρ c 1 0 6 ∗ Out m ρ c 2 0 6 ∗ Out m ρ c 3 0 6)
      ⊢ iprop(Φ₁ (F := F) c ∗ (xo m ρ c ∗ wo m ρ c) ∗ outWhole m ρ c) := by
  unfold bodyOut
  iintro ⟨⟨Hxw, HU, ⟨D0, D1, D2, D3⟩, ⟨A0, A1, A2, A3⟩, Hz⟩, O0, O1, O2, O3⟩
  ihave C0 := (col_done m ρ c 0) $$ [O0 D0]
  · isplitl [O0]; · iexact O0
    iexact D0
  ihave C1 := (col_done m ρ c 1) $$ [O1 D1]
  · isplitl [O1]; · iexact O1
    iexact D1
  ihave C2 := (col_done m ρ c 2) $$ [O2 D2]
  · isplitl [O2]; · iexact O2
    iexact D2
  ihave C3 := (col_done m ρ c 3) $$ [O3 D3]
  · isplitl [O3]; · iexact O3
    iexact D3
  icases C0 with ⟨Z0, S0, L00, L01, L03⟩
  icases C1 with ⟨Z1, S1, L10, L11, L13⟩
  icases C2 with ⟨Z2, S2, L20, L21, L23⟩
  icases C3 with ⟨Z3, S3, L30, L31, L33⟩
  isplitr [Hxw HU]
  · unfold Φ₁ Pipeline.ownSems0
    isplitl [Hz]; · iexact Hz
    isplitl [Z0 Z1 Z2 Z3]
    · iapply (Entails.of_eq ((own_cells (F := F) fun sm => semVal ((c : Thread nD τ), sm) 0).trans (bigSep4 _)).symm)
      isplitl [Z0]; · iexact Z0
      isplitl [Z1]; · iexact Z1
      isplitl [Z2]; · iexact Z2
      iexact Z3
    isplitr [S0 S1 S2 S3]
    · iexists (T m ρ 3)
      iapply (Entails.of_eq (acc_rows c (T m ρ 3)).symm)
      isplitl [A0 L00 L10 L20 L30]
      · rw [row_halves, accRow_pieces c _ fullShare.left]
        isplitr [A0]
        · isplitl [L00]; · iexact L00
          isplitl [L10]; · iexact L10
          isplitl [L20]; · iexact L20
          iexact L30
        iexact A0
      isplitl [A1 L01 L11 L21 L31]
      · rw [row_halves, accRow_pieces c _ fullShare.left]
        isplitr [A1]
        · isplitl [L01]; · iexact L01
          isplitl [L11]; · iexact L11
          isplitl [L21]; · iexact L21
          iexact L31
        iexact A1
      isplitl [A2]; · iexact A2
      rw [row_halves, accRow_pieces c _ fullShare.left]
      isplitr [A3]
      · isplitl [L03]; · iexact L03
        isplitl [L13]; · iexact L13
        isplitl [L23]; · iexact L23
        iexact L33
      iexact A3
    iapply (slots_recv m c)
    isplitl [S0]; · iexact S0
    isplitl [S1]; · iexact S1
    isplitl [S2]; · iexact S2
    iexact S3
  isplitl [Hxw]; · iexact Hxw
  unfold outWhole
  iapply (Entails.of_eq (out_rows c (outAt m ρ)).symm)
  iexact HU

end Cert.AllReduce

end
-- ==== Proof.Launch.lean ====
/-
  The launch: what each device is dealt, that its body runs from it, and the run of the whole program.
-/
module

public import proofs.«01_k».proof.Proof.Cells
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device is dealt -/

/-- The tokens of the duties device `c` pays and its places at its own cells. -/
def lin (c : Dev nD) : sProp 𝕄 :=
  iprop((dutyTok ER (barCell (mv 2 1 c)) 0 true ∗ dutyTok ER (barCell (mv 0 1 c)) 0 false ∗ atPos ER (barCell c) 0 ∅ 0)
    ∗ bigSep Finset.univ fun q : Fin 4 => iprop(up (sd₀ (F := F) c q) 6 0 ∗ up (fun h => atPos ER (rcvCell c h q) 0 ∅ 0) 6 0))
/-- The credit its neighbours owe it. -/
def crs (c : Dev nD) : sProp 𝕄 :=
  iprop(cred (tallyAt (barCell c) () 2) ∗ bigSep Finset.univ fun q : Fin 4 => up (fun h => cred (tallyAt (rcvCell c h q) () N)) 6 0)
def start (c : Dev nD) : sProp 𝕄 := iprop(recs m ρ ∗ lin (F := F) c ∗ crs (F := F) c)
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

def t₀ : Fin cfg0.N := t0_0
theorem fin_N (t : Fin cfg0.N) : t = t₀ := fin_N0 t

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body from it -/

/-- A staging buffer, whole, at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ))

omit [FloatOps F] in
theorem acc_any (c : Dev nD) (f : Buf (Elt F) ((c : Thread nD τ).loc cc0_scratch0)) :
    (((c : Thread nD τ).loc cc0_scratch0) ↦{fullShare} f : sProp 𝕄)
      ⊢ iprop(accAny (F := F) c (mv 0 0 c) ∗ accAny (F := F) c (mv 0 1 c) ∗ accAny (F := F) c (mv 0 2 c) ∗ accAny (F := F) c (mv 0 3 c)) := by
  unfold accAny
  iintro H
  ihave H := (Entails.of_eq (acc_rows c f)) $$ H
  icases H with ⟨H0, H1, H2, H3⟩
  isplitl [H0]; · iexists f; iexact H0
  isplitl [H1]; · iexists f; iexact H1
  isplitl [H2]; · iexists f; iexact H2
  iexists f; iexact H3

omit [FloatOps F] in
theorem out_any (c : Dev nD) (f : Buf (Elt F) ((c : Thread nD τ).loc cc0_stg2_0)) :
    (((c : Thread nD τ).loc cc0_stg2_0) ↦{fullShare} f : sProp 𝕄)
      ⊢ iprop(outAny (F := F) c (mv 0 0 c) ∗ outAny (F := F) c (mv 0 1 c) ∗ outAny (F := F) c (mv 0 2 c) ∗ outAny (F := F) c (mv 0 3 c)) := by
  unfold outAny
  iintro H
  ihave H := (Entails.of_eq (out_rows c f)) $$ H
  icases H with ⟨H0, H1, H2, H3⟩
  isplitl [H0]; · iexists f; iexact H0
  isplitl [H1]; · iexists f; iexact H1
  isplitl [H2]; · iexists f; iexact H2
  iexists f; iexact H3

omit [FloatOps F] in
theorem ini_join (c : Dev nD) (q : Fin 4) :
    iprop((up (sd₀ (F := F) c q) 6 0 ∗ up (fun h => atPos ER (rcvCell c h q) 0 ∅ 0) 6 0) ∗ up (fun h => cred (tallyAt (rcvCell c h q) () N)) 6 0)
      ⊢ Ini (F := F) c q := by
  unfold Ini
  have e : up (rv (F := F) c q) 6 0 = iprop(up (fun h => atPos ER (rcvCell c h q) 0 ∅ 0) 6 0 ∗ up (fun h => cred (tallyAt (rcvCell c h q) () N)) 6 0) := up_sep _ _ 6 0
  rw [e]
  iintro ⟨⟨H1, H2⟩, H3⟩
  isplitl [H1]; · iexact H1
  isplitl [H2]; · iexact H2
  iexact H3

theorem enter (c : Dev nD) : bodyPre m ρ c ⊢ iprop(recs m ρ ∗ bodyIn m ρ c) := by
  unfold bodyPre Φ₀ start lin crs
  rw [bigSep4, bigSep4]
  iintro ⟨⟨⟨#HR, ⟨⟨T1, T2, Hat⟩, ⟨G0, G1, G2, G3⟩⟩, ⟨Hcr, C0, C1, C2, C3⟩⟩, ⟨%fa, Ha⟩, Hb⟩, Ho, ⟨%d0, %g0, %hg0, Hx⟩, ⟨%d1, %g1, %hg1, Hw⟩, ⟨%d2, %g2, %hg2, Hu⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx
  subst hw
  unfold Dat.owesAt Pipeline.owesWithin
  icases Ho with ⟨%W, %hW, Ho⟩
  rw [show (dats m ρ 0 c).owed t₀.castSucc = O₀ c from rfl]
  isplitr; · iexact HR
  unfold bodyIn
  isplitl [T1 T2 Hat Hcr]
  · isplitl [T1]; · iexact T1
    isplitl [T2]; · iexact T2
    isplitl [Hat]; · iexact Hat
    iexact Hcr
  isplitl [G0 G1 G2 G3 C0 C1 C2 C3]
  · isplitl [G0 C0]
    · iapply (ini_join (F := F) c 0); isplitl [G0]; · iexact G0
      iexact C0
    isplitl [G1 C1]
    · iapply (ini_join (F := F) c 1); isplitl [G1]; · iexact G1
      iexact C1
    isplitl [G2 C2]
    · iapply (ini_join (F := F) c 2); isplitl [G2]; · iexact G2
      iexact C2
    iapply (ini_join (F := F) c 3); isplitl [G3]; · iexact G3
    iexact C3
  isplitl [Hb]; · iapply (recv_slots (F := F) c); iexact Hb
  isplitl [Ha]; · iapply (acc_any (F := F) c fa); iexact Ha
  isplitl [Hu]; · iapply (out_any (F := F) c g2); iexact Hu
  isplitl [Hx]; · unfold xo; iexact Hx
  isplitl [Hw]; · unfold wo; iexact Hw
  unfold debt
  iexists W
  iexact Ho

theorem leave (c : Dev nD) :
    iprop(bodyOut m ρ c ∗ Out m ρ c 0 0 6 ∗ Out m ρ c 1 0 6 ∗ Out m ρ c 2 0 6 ∗ Out m ρ c 3 0 6 ∗ debt (F := F) c 0) ⊢ bodyPost m ρ c := by
  iintro ⟨HB, H0, H1, H2, H3, Ho⟩
  ihave H := (finish m ρ c) $$ [HB H0 H1 H2 H3]
  · isplitl [HB]; · iexact HB
    isplitl [H0]; · iexact H0
    isplitl [H1]; · iexact H1
    isplitl [H2]; · iexact H2
    iexact H3
  icases H with ⟨HΦ, ⟨Hx, Hw⟩, Hu⟩
  unfold debt
  icases Ho with ⟨%W, Ho⟩
  unfold bodyPost Dat.owesAt Pipeline.owesWithin
  rw [show (dats m ρ 0 c).owed t₀.succ = 0 from rfl]
  isplitl [HΦ]; · iexact HΦ
  isplitl [Ho]
  · iexists W
    isplitr; · ipureintro; exact fun _ _ => Or.inl trivial
    iexact Ho
  isplitl [Hx]
  · iexists _; isplitr; · (ipureintro; rfl)
    unfold xo; iexact Hx
  isplitl [Hw]
  · iexists _; isplitr; · (ipureintro; rfl)
    unfold wo; iexact Hw
  iexists _; isplitr; · (ipureintro; rfl)
  unfold outWhole; iexact Hu

set_option maxRecDepth 20000 in
/-- The body on core `c`, from what the launch hands it to what the launch takes back. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ Wp c (cc0_body xM (Memref.isWhole_whole _) wM (Memref.isWhole_whole _) oM (Memref.isWhole_whole _) aM (Memref.isWhole_whole _)
    bM (Memref.isWhole_whole _) cc0_scratch2 cc0_scratch3 cc0_scratch4 cc0_scratch5) (fun _ => bodyPost m ρ c)
  refine ((enter m ρ c).trans (body_run m ρ c)).trans ?_
  unfold Wp
  exact Idealize.SL.Sem.wp_mono _ _ _ fun _ => leave m ρ c

end Cert.AllReduce

end
-- ==== Proof.Run.lean ====
/-
  The ghost state of the launch, dealt to the devices, and the run of the whole program.
-/
module

public import proofs.«01_k».proof.Proof.Launch
public import Idealize.ShloMosaic.Lib.Pipeline.CollectiveSegs
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

theorem ownSemFacts : Pipeline.OwnSemFacts cfg0.spec osem := by decide

theorem share_eq (c : Dev nD) (w : Fin cfg0.W) : (dats m ρ 0 c).share w = fullShare := by unfold Dat.share; split <;> rfl

theorem kcell_inj : Function.Injective (kcell : Dev nD × Fin 49 → GSem nD τ sig) := by
  rintro ⟨c, k⟩ ⟨c', k'⟩ h
  have h1 : c = c' := congrArg (fun g : GSem nD τ sig => g.1.1) h
  have h2 : csem k = csem k' := congrArg Prod.snd h
  rw [h1, csem_inj h2]

def ringCells : Finset (GSem nD τ sig) := Finset.univ.map ⟨kcell, kcell_inj⟩

/-- Two tokens of each cell; of the DMA cells' one is of no duty and is let go. -/
abbrev tokOf (x : Dev nD × Fin 49 × Bool) : GSem nD τ sig × ℕ × Bool := (kcell (x.1, x.2.1), 0, x.2.2)
theorem tokOf_inj : Function.Injective tokOf := by
  rintro ⟨c, i, b⟩ ⟨c', i', b'⟩ h
  have h1 : (c, i) = (c', i') := kcell_inj (congrArg Prod.fst h)
  have h2 : b = b' := congrArg (fun x : GSem nD τ sig × ℕ × Bool => x.2.2) h
  rw [h2, (Prod.mk.inj h1).1, (Prod.mk.inj h1).2]
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

def toks (c : Dev nD) : sProp 𝕄 :=
  bigSep Finset.univ fun i : Fin 49 => bigSep Finset.univ fun b : Bool => dutyTok ER (kcell (c, i)) 0 b
/-- What a device starts from: its cells' state, its places at them, and their tokens. -/
def G (c : Dev nD) : sProp 𝕄 :=
  iprop((bigSep Finset.univ fun k : Fin 49 => roundState ER (Rd m ρ) (kcell (c, k)) 0)
    ∗ (bigSep Finset.univ fun k : Fin 49 => atPos ER (kcell (c, k)) 0 ∅ 0) ∗ (bigSep Finset.univ fun k : Fin 49 => reached ER (kcell (c, k)) 0) ∗ toks (F := F) c)

/-- Every cell's invariant, and that it has reached round 0. -/
def invs : sProp 𝕄 :=
  bigSep Finset.univ fun ck : Dev nD × Fin 49 => iprop((∃ κ, cellInv ER (Rd m ρ) κ (kcell ck)) ∗ reached ER (kcell ck) 0)
instance invs_persistent : BI.Persistent (invs (F := F) m ρ) := by unfold invs; infer_instance

def G' (c : Dev nD) : sProp 𝕄 := iprop(invs m ρ ∗ lin (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 49 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod]
    exact bigSep_congr fun c _ => by rw [bigSep_univ_prod]; rfl
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 49 => semVal (kcell (c, k)) 0 : sProp 𝕄) := by
  have e := all_cells (F := F) fun sm => semVal ((c : Thread nD τ), sm) 0
  have e' := own_cells (F := F) fun sm => semVal ((c : Thread nD τ), sm) 0
  rw [unscopedSems0_eq]
  unfold Pipeline.ownSems0
  iintro ⟨H, H'⟩
  ihave H := (Entails.of_eq e') $$ H
  iapply (Entails.of_eq e.symm)
  isplitl [H']; · iexact H'
  iexact H

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop((∃ κ : ℕ, cellInv ER (Rd m ρ) κ (kcell (c, k))) ∗ reached ER (kcell (c, k)) 0))
          ∗ (bigSep Finset.univ fun k : Fin 49 => atPos ER (kcell (c, k)) 0 ∅ 0) ∗ toks (F := F) c) := by
  unfold G
  iintro ⟨Hos, Hus, Hst, Hat, Hr, Htok⟩
  ihave Hv := (sems0_eq (F := F) c) $$ [Hos Hus]
  · isplitl [Hos] <;> iassumption
  have al : iprop((bigSep Finset.univ fun k : Fin 49 => semVal (kcell (c, k)) 0) ∗ bigSep Finset.univ fun k : Fin 49 => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  imod al $$ [Hv Hst] with Hinv
  · isplitl [Hv] <;> iassumption
  imodintro
  isplitl [Hinv Hr]
  · rw [bigSep_sep']
    isplitl [Hinv]; · iexact Hinv
    iexact Hr
  isplitl [Hat]; · iexact Hat
  iexact Htok

/-! ## The tokens to the devices that use them -/

/-- The tokens of a device's own cells' duties. -/
def tk (c : Dev nD) : sProp 𝕄 :=
  iprop(dutyTok ER (barCell c) 0 true ∗ dutyTok ER (barCell c) 0 false
    ∗ bigSep Finset.univ fun q : Fin 4 => iprop(up (fun h => dutyTok ER (sndCell c h q) 0 false) 6 0 ∗ up (fun h => dutyTok ER (rcvCell c h q) 0 false) 6 0))

omit [FloatOps F] in
theorem tk_of (c : Dev nD) : toks (F := F) c ⊢ tk (F := F) c := by
  have e : toks (F := F) c = iprop((bigSep Finset.univ fun i : Fin 49 => dutyTok ER (kcell (c, i)) 0 true) ∗ bigSep Finset.univ fun i : Fin 49 => dutyTok ER (kcell (c, i)) 0 false) := by
    unfold toks; rw [← bigSep_sep']
    exact bigSep_congr fun i _ => bigSep_univ_eq_bigSepL [true, false] (by decide) (by decide) _
  rw [e]
  unfold tk
  iintro ⟨H, H'⟩
  ihave H := (Entails.of_eq (all_cells (F := F) fun sm => dutyTok ER ((c : Thread nD τ), sm) 0 true)) $$ H
  ihave H' := (Entails.of_eq (all_cells (F := F) fun sm => dutyTok ER ((c : Thread nD τ), sm) 0 false)) $$ H'
  icases H with ⟨H, -⟩
  icases H' with ⟨H', H''⟩
  isplitl [H]; · iexact H
  isplitl [H']; · iexact H'
  iexact H''

omit [FloatOps F] in
theorem up_bigSep {I : Type} (S : Finset I) (f : I → ℕ → sProp 𝕄) (n a : ℕ) :
    up (fun h => bigSep S fun i => f i h) n a = bigSep S fun i => up (f i) n a := by
  induction n generalizing a with
  | zero => exact (bigSep_emp_const S).symm
  | succ n ih => simp only [up_succ]; rw [ih, ← bigSep_sep']

omit [FloatOps F] in
/-- Something held of each device and column block may be dealt one step on in the block's direction. -/
theorem deal (f : Dev nD → Fin 4 → sProp 𝕄) :
    (bigSep Finset.univ fun c : Dev nD => bigSep Finset.univ fun q : Fin 4 => f c q)
      = bigSep Finset.univ fun c : Dev nD => bigSep Finset.univ fun q : Fin 4 => f (mv q 1 c) q := by
  rw [bigSep_univ_comm, bigSep_univ_comm (fun (c : Dev nD) (q : Fin 4) => f (mv q 1 c) q)]
  exact bigSep_congr fun q _ => bigSep_univ_equiv (around q) fun c => f c q

omit [FloatOps F] in
theorem dealt :
    iprop((bigSep Finset.univ fun c : Dev nD => bigSep Finset.univ fun k : Fin 49 => atPos ER (kcell (c, k)) 0 ∅ 0) ∗ bigSep Finset.univ fun c : Dev nD => toks (F := F) c)
      ⊢ (bigSep Finset.univ fun c : Dev nD => lin (F := F) c : sProp 𝕄) := by
  have e1 : (bigSep Finset.univ fun c : Dev nD => bigSep Finset.univ fun k : Fin 49 => (atPos ER (kcell (c, k)) 0 ∅ 0 : sProp 𝕄))
      = bigSep Finset.univ fun c : Dev nD => iprop(atPos ER (barCell c) 0 ∅ 0
          ∗ bigSep Finset.univ fun q : Fin 4 => iprop(up (fun h => atPos ER (sndCell c h q) 0 ∅ 0) 6 0 ∗ up (fun h => atPos ER (rcvCell c h q) 0 ∅ 0) 6 0)) :=
    bigSep_congr fun c _ => all_cells (F := F) fun sm => atPos ER ((c : Thread nD τ), sm) 0 ∅ 0
  have e2 : ∀ (c : Dev nD) (q : Fin 4), up (sd₀ (F := F) c q) 6 0 = iprop(up (fun h => dutyTok ER (sndCell c h q) 0 false) 6 0
      ∗ up (fun h => dutyTok ER (rcvCell (mv q 1 c) h q) 0 false) 6 0 ∗ up (fun h => atPos ER (sndCell c h q) 0 ∅ 0) 6 0) := fun c q => by
    rw [← up_sep, ← up_sep]; rfl
  have a2 := bigSep_univ_equiv (around 2) fun c : Dev nD => (dutyTok ER (barCell c) 0 true : sProp 𝕄)
  have a0 := bigSep_univ_equiv (around 0) fun c : Dev nD => (dutyTok ER (barCell c) 0 false : sProp 𝕄)
  have dl := deal (F := F) fun c q => up (fun h => dutyTok ER (rcvCell c h q) 0 false) 6 0
  rw [e1]
  refine (sep_mono_right (bigSep_mono fun c _ => tk_of (F := F) c)).trans ?_
  unfold tk lin
  simp only [e2, bigSep_sep']
  rw [a2, a0, dl]
  iintro ⟨⟨H1, H2, H3⟩, H4, H5, H6, H7⟩
  isplitl [H1 H4 H5]
  · isplitl [H4]; · iexact H4
    isplitl [H5]; · iexact H5
    iexact H1
  isplitl [H2 H6 H7]
  · isplitl [H6]; · iexact H6
    isplitl [H7]; · iexact H7
    iexact H2
  iexact H3

theorem regroup :
    (bigSep Finset.univ fun c : Dev nD => iprop((bigSep Finset.univ fun k => iprop((∃ κ : ℕ, cellInv ER (Rd m ρ) κ (kcell (c, k))) ∗ reached ER (kcell (c, k)) 0))
          ∗ (bigSep Finset.univ fun k : Fin 49 => atPos ER (kcell (c, k)) 0 ∅ 0) ∗ toks (F := F) c) : sProp 𝕄)
      ⊢ bigSep Finset.univ (G' m ρ) := by
  have eG : (bigSep Finset.univ fun c : Dev nD => G' m ρ c) = iprop((bigSep Finset.univ fun _ : Dev nD => invs m ρ) ∗ bigSep Finset.univ fun c : Dev nD => lin (F := F) c) :=
    bigSep_sep' _ _ _
  have eI : (bigSep Finset.univ fun c : Dev nD => bigSep Finset.univ fun k : Fin 49 => iprop((∃ κ : ℕ, cellInv ER (Rd m ρ) κ (kcell (c, k))) ∗ reached ER (kcell (c, k)) 0))
      = invs m ρ :=
    (bigSep_univ_prod (fun ck : Dev nD × Fin 49 => iprop((∃ κ : ℕ, cellInv ER (Rd m ρ) κ (kcell ck)) ∗ reached ER (kcell ck) 0))).symm
  refine BIBase.Entails.trans ?_ (Entails.of_eq eG.symm)
  rw [bigSep_sep' Finset.univ (fun c : Dev nD => bigSep Finset.univ fun k : Fin 49 => iprop((∃ κ : ℕ, cellInv ER (Rd m ρ) κ (kcell (c, k))) ∗ reached ER (kcell (c, k)) 0)), eI,
    bigSep_sep']
  exact BI.sep_mono (BI.bigSep_of_persistent Finset.univ (invs m ρ)) (dealt (F := F))

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_iff {a b : Dev nD} : barCell a = barCell b ↔ a = b :=
  ⟨fun h => congrArg (fun g : GSem nD τ sig => g.1.1) h, fun h => h ▸ rfl⟩

theorem rcv_iff {a b : Dev nD} {h h' : ℕ} (hh : h < 6) (hh' : h' < 6) {q q' : Fin 4} :
    rcvCell a h q = rcvCell b h' q' ↔ a = b ∧ h = h' ∧ q = q' := by
  constructor
  · intro e
    have e1 : a = b := congrArg (fun g : GSem nD τ sig => g.1.1) e
    have e2 : use (.dma (rcvS h q)) = use (.dma (rcvS h' q')) := congrArg (fun g : GSem nD τ sig => use g.2) e
    rw [use_rcv hh, use_rcv hh'] at e2
    exact ⟨e1, Use.rcv.inj e2⟩
  · rintro ⟨rfl, rfl, rfl⟩; rfl

theorem bar_ne_rcv (a b : Dev nD) (h : ℕ) (q : Fin 4) : barCell a ≠ rcvCell b h q := fun e => by cases (congrArg Prod.snd e)

/-- What the sends of `l` owe device `c` for hop `h` of column block `q`. -/
theorem oweL_rcv (d c : Dev nD) {h : ℕ} (hh : h < 6) (q : Fin 4) (l : List (ℕ × Fin 4)) (hl : ∀ p ∈ l, p.1 < 6) :
    oweL d l (rcvCell c h q) () = if d = mv q 3 c then N * l.count (h, q) else 0 := by
  have turn : d = mv q 3 c ↔ c = mv q 1 d := by
    constructor
    · rintro rfl; rw [mv_mv]; exact (mv_four_mul q 1 c).symm
    · rintro rfl; rw [mv_mv]; exact (mv_four_mul q 1 d).symm
  induction l with
  | nil => simp [oweL]
  | cons p l ih =>
    have h6 := hl p List.mem_cons_self
    show (oweL d l + tallyAt (rcvCell (mv p.2 1 d) p.1 p.2) () N) (rcvCell c h q) () = _
    rw [Pi.add_apply, Finsupp.add_apply, ih fun p hp => hl p (List.mem_cons_of_mem _ hp), tallyAt_apply, List.count_cons]
    by_cases e : rcvCell c h q = rcvCell (mv p.2 1 d) p.1 p.2
    · obtain ⟨e1, e2, e3⟩ := (rcv_iff hh h6).mp e
      have ep : p = (h, q) := Prod.ext e2.symm e3.symm
      subst ep
      have hd : d = mv q 3 c := turn.mpr e1
      rw [if_pos hd, if_pos hd]
      simp only [e, true_and, if_true, beq_self_eq_true, Nat.mul_add, Nat.mul_one]
    · have hz : (if rcvCell c h q = rcvCell (mv p.2 1 d) p.1 p.2 ∧ () = () then N else 0) = 0 := if_neg fun h' => e h'.1
      rw [hz, Nat.add_zero]
      by_cases ed : d = mv q 3 c
      · have hp : ¬ p = (h, q) := fun hp => e (by subst hp; rw [← turn.mp ed])
        rw [if_pos ed, if_pos ed, if_neg (by simpa using hp), Nat.add_zero]
      · rw [if_neg ed, if_neg ed]

theorem oweL_bar (d c : Dev nD) (l : List (ℕ × Fin 4)) : oweL d l (barCell c) () = 0 := by
  induction l with
  | nil => rfl
  | cons p l ih =>
    show (oweL d l + tallyAt (rcvCell (mv p.2 1 d) p.1 p.2) () N) (barCell c) () = _
    rw [Pi.add_apply, Finsupp.add_apply, ih, tallyAt_apply, if_neg fun h => bar_ne_rcv _ _ _ _ h.1]

theorem sends_count {h : ℕ} (hh : h < 6) (q : Fin 4) : sends.count (h, q) = 1 := by
  have key : ∀ (h : Fin 6) (q : Fin 4), sends.count (h.val, q) = 1 := by decide
  exact key ⟨h, hh⟩ q

theorem owed_rcv (d c : Dev nD) {h : ℕ} (hh : h < 6) (q : Fin 4) : O₀ d (rcvCell c h q) () = if d = mv q 3 c then N else 0 := by
  unfold O₀ O₁
  have hz : ∀ b : Dev nD, (tallyAt (barCell b) () 1 : CellTallies nD τ sig Unit) (rcvCell c h q) () = 0 := fun b => by
    rw [tallyAt_apply]; exact if_neg fun e => bar_ne_rcv _ _ _ _ e.1.symm
  rw [Pi.add_apply, Finsupp.add_apply, Pi.add_apply, Finsupp.add_apply, oweL_rcv d c hh q sends sends_lt, sends_count hh q, hz, hz,
    Nat.mul_one, Nat.add_zero]

theorem owed_bar (d c : Dev nD) : O₀ d (barCell c) () = (if d = mv 0 3 c then 1 else 0) + (if d = mv 2 3 c then 1 else 0) := by
  have turn : ∀ q : Fin 4, (tallyAt (barCell (mv q 1 d)) () 1 : CellTallies nD τ sig Unit) (barCell c) () = if d = mv q 3 c then 1 else 0 := fun q => by
    rw [tallyAt_apply]
    by_cases h : d = mv q 3 c
    · rw [if_pos h]; subst h; rw [mv_mv]
      exact if_pos ⟨congrArg barCell (mv_four_mul q 1 c).symm, rfl⟩
    · rw [if_neg h]
      exact if_neg fun e => h (by rw [bar_iff.mp e.1, mv_mv]; exact (mv_four_mul q 1 d).symm)
  unfold O₀ O₁
  rw [Pi.add_apply, Finsupp.add_apply, Pi.add_apply, Finsupp.add_apply, oweL_bar, turn, turn, Nat.zero_add]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ _ fun _ => 1, Finset.sum_ite_eq' Finset.univ _ fun _ => 1, if_pos (Finset.mem_univ _), if_pos (Finset.mem_univ _)]

omit [FloatOps F] in
theorem launch_rcv (c : Dev nD) {h : ℕ} (hh : h < 6) (q : Fin 4) :
    tallyOn (rcvCell c h q) (launchCredit (Pipeline.owing O₀) 0 (rcvCell c h q)) = (tallyAt (rcvCell c h q) () N : CellTallies nD τ sig Unit) := by
  unfold tallyAt; refine congrArg _ (Finsupp.ext fun u => ?_); cases u
  rw [Pipeline.launchCredit_owing, Finsupp.single_eq_same, Finset.sum_congr rfl fun d _ => owed_rcv d c hh q, Finset.sum_ite_eq' Finset.univ _ fun _ => N,
    if_pos (Finset.mem_univ _)]

omit [FloatOps F] in
theorem creds (c : Dev nD) : (Pipeline.launchCred O₀ c : sProp 𝕄) ⊢ crs (F := F) c := by
  unfold Pipeline.launchCred crs
  refine (bigSep_subset (Finset.subset_univ (Finset.univ.map ⟨csem, csem_inj⟩))).trans ?_
  rw [bigSep_map]
  refine (Entails.of_eq (all_cells (F := F) fun sm => cred (tallyOn ((c : Thread nD τ), sm) (launchCredit (Pipeline.owing O₀) 0 ((c : Thread nD τ), sm))))).trans ?_
  rw [launch_bar, bigSep_sep']
  iintro ⟨H, -, H'⟩
  isplitl [H]; · iexact H
  have e : (bigSep Finset.univ fun q : Fin 4 => up (fun h => cred (tallyOn (rcvCell c h q) (launchCredit (Pipeline.owing O₀) 0 (rcvCell c h q)))) 6 0 : sProp 𝕄)
      = bigSep Finset.univ fun q : Fin 4 => up (fun h => cred (tallyAt (rcvCell c h q) () N)) 6 0 :=
    bigSep_congr fun q _ => up_congr 6 0 fun h hh => congrArg cred (launch_rcv c (by omega) q)
  iapply (Entails.of_eq e)
  iexact H'

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' invs start recs
  iintro ⟨-, Hlev, Hcr, -, HI, HL⟩
  ihave Hc := (creds (F := F) c) $$ Hcr
  imodintro
  isplitl
  · isplitl [Hlev HI]
    · isplitl [HI]; · iexact HI
      iexact Hlev
    isplitl [HL]; · iexact HL
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Ha, Hb⟩
  isplitl [Hs]; · iexact Hs
  isplitl [Ha]; · iexact Ha
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁
  iintro ⟨Hz, Ho, Ha, Hb⟩
  isplitl [Hz]; · iexact Hz
  isplitl [Ho]; · iexact Ho
  isplitl [Ha]; · iexact Ha
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is in the arrays when the program is done. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- From any memory with all counters at zero, for any float values: every fair run of the four devices ends, with every
    array at its contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_0 (c : Dev nD) : finalA m ρ c (0 : Fin 3) = (s₀ m ρ).mem (win0_0.arr.view.loc (c : Thread nD τ)) :=
  (dats (F := F) m ρ 0 c).arrAt_in (0 : Fin 3) rfl _
theorem finalA_1 (c : Dev nD) : finalA m ρ c (1 : Fin 3) = (s₀ m ρ).mem (win0_1.arr.view.loc (c : Thread nD τ)) :=
  (dats (F := F) m ρ 0 c).arrAt_in (1 : Fin 3) rfl _

end Cert.AllReduce

end
-- ==== Proof.Value.lean ====
module

public import proofs.«01_k».proof.Proof.Run
public import Idealize.ShloMosaic.Lib.MatmulPlain
public import Idealize.ShloMosaic.Lib.KernelVsHost
public import Idealize.ShloMosaic.Lib.Layout
public import Idealize.ShloMosaic.Lib.Pipeline.ValueKit.Geometry
public import Idealize.ShloMosaic.Lib.Pipeline.ValueKit.Acc

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## What the run leaves in the result array -/

section Any
variable {F : FTy → Type} [FloatOps F]
variable (m : (ℓ : Loc nD τ sig) → Buf (Elt F) ℓ) (ρ : Dev nD → PrngReg)

/-- The result array of every device after the run: the sum of the four partial products. -/
theorem finalA_2 (c : Dev nD) : finalA m ρ c (2 : Fin 3) = outAt m ρ := by
  refine (dats m ρ 0 c).arrAt_eq_of_after_last (2 : Fin 3) t₀ (by decide +kernel) _ fun j => ?_
  rfl

/-- A staged operand is the device's whole argument array. -/
theorem xstg_eq (c : Dev nD) : xstg m ρ c = m (c.tc.loc main_arg0) := by
  funext i
  unfold xstg
  show m (c.tc.loc main_arg0) _ = _
  congr 1
  funext a
  match a with
  | ⟨0, _⟩ => apply Fin.ext; show 0 * _ + 1 * (i 0).val = (i 0).val; omega
  | ⟨1, _⟩ => apply Fin.ext; show 0 * _ + 1 * (i 1).val = (i 1).val; omega

theorem wstg_eq (c : Dev nD) : wstg m ρ c = m (c.tc.loc main_arg1) := by
  funext i
  unfold wstg
  show m (c.tc.loc main_arg1) _ = _
  congr 1
  funext a
  match a with
  | ⟨0, _⟩ => apply Fin.ext; show 0 * _ + 1 * (i 0).val = (i 0).val; omega
  | ⟨1, _⟩ => apply Fin.ext; show 0 * _ + 1 * (i 1).val = (i 1).val; omega

end Any

/-! ## Over the extended reals -/

variable (m : (ℓ : Loc nD τ sig) → Buf (Elt Ideal) ℓ) (ρ : Dev nD → PrngReg)

/-- The product of a 512 by 512 block and a 512 by 2048 block, at a row and a column: the sum of 512 products. -/
theorem pay_apply (x : FVec Ideal S512x512 .bf16) (w : FVec Ideal S512x2048 .bf16) (r : Fin 512) (l : Fin 2048) :
    k0_pay1 (F := Ideal) x w (ValueIdx.ix2 r l) = ∑ k : Fin 512, x (ValueIdx.ix2 r k) * w (ValueIdx.ix2 k l) := by
  unfold k0_pay1
  simp only [shapeCast_self]
  show Ideal.matmul dot_S512x512_S512x2048_S512x2048_1_0_0_1_n_n x w (constant (F := Ideal) S512x2048 .f32 0x00000000#32) (ValueIdx.ix2 r l) = _
  refine (Ideal.matmul_plain_apply (M := 512) (K := 512) (N := 2048) (φ₁ := .bf16) (φ₂ := .bf16) none x w (constant S512x2048 .f32 0x00000000#32) r l).trans ?_
  rw [show (constant (F := Ideal) S512x2048 .f32 0x00000000#32) (ValueIdx.ix2 r l) = 0 from Ideal.ofBits_zero_f32]
  exact zero_add _

/-- What the reference computes at a row and a column: the sum of 2048 products. -/
theorem ref_apply (A B : FVec Ideal S2048x2048 .bf16) (d : DotDims S2048x2048 S2048x2048 S2048x2048)
    (hd : d = DotDims.plain 2048 2048 2048) (r l : Fin 2048) :
    Host.dotGeneral (F := Ideal) d none A B (ValueIdx.ix2 r l) = ∑ k : Fin 2048, A (ValueIdx.ix2 r k) * B (ValueIdx.ix2 k l) := by
  subst hd
  rw [← matmul_zero_eq_dotGeneral]
  refine (Ideal.matmul_plain_apply (M := 2048) (K := 2048) (N := 2048) (φ₁ := .bf16) (φ₂ := .bf16) none A B (constant _ .f32 0x00000000#32) r l).trans ?_
  rw [show (constant (F := Ideal) (⟨2, ![2048, 2048]⟩ : Shape) .f32 0x00000000#32) (ValueIdx.ix2 r l) = 0 from Ideal.ofBits_zero_f32]
  exact zero_add _

/-- Starting at any device and stepping around the ring in either direction, the four devices are met once each. -/
theorem round_sum (f : Fin 4 → EReal) (q k : Fin 4) :
    f (mv q 3 k) + (f (mv q 2 k) + (f (mv q 1 k) + f k)) = ∑ d : Fin 4, f d := by
  rw [Fin.sum_univ_four]
  have key : ∀ q k : Fin 4, (mv q 3 k, mv q 2 k, mv q 1 k) = (k + 3, k + 2, k + 1) ∨ (mv q 3 k, mv q 2 k, mv q 1 k) = (k + 1, k + 2, k + 3) := by decide
  have rot : ∀ k : Fin 4, f (k + 3) + (f (k + 2) + (f (k + 1) + f k)) = f 0 + f 1 + f 2 + f 3 := by
    intro k
    match k with
    | 0 => show f 3 + (f 2 + (f 1 + f 0)) = _; ac_rfl
    | 1 => show f 0 + (f 3 + (f 2 + f 1)) = _; ac_rfl
    | 2 => show f 1 + (f 0 + (f 3 + f 2)) = _; ac_rfl
    | 3 => show f 2 + (f 1 + (f 0 + f 3)) = _; ac_rfl
  rcases key q k with h | h <;> simp only [Prod.mk.injEq] at h <;> rw [h.1, h.2.1, h.2.2, ← rot k]
  ac_rfl

/-- The result at an element: the sum over the devices of their partial products. -/
theorem out_sum (i : S2048x2048.Idx) : outAt (F := Ideal) m ρ i = ∑ d : Fin 4, P (F := Ideal) m ρ d i :=
  round_sum (fun d => P (F := Ideal) m ρ d i) (qOf i) (kOf i)

variable (A B : S2048x2048.Idx → Ideal .bf16)

/-- With the operands cut along the contracted axis, device `c`'s partial product is the sum over its 512 positions. -/
theorem partial_apply (c : Dev nD)
    (hA : m (c.tc.loc main_arg0) = Layout.block ⟨2, ![2048, 512]⟩ ⟨2, ![2048, 2048]⟩ 1 4 c A)
    (hB : m (c.tc.loc main_arg1) = Layout.block ⟨2, ![512, 2048]⟩ ⟨2, ![2048, 2048]⟩ 0 4 c B) (r l : Fin 2048) :
    P (F := Ideal) m ρ c (ValueIdx.ix2 r l)
      = ∑ k : Fin 512, A (ValueIdx.ix2 r ⟨c.val * 512 + k.val, by have : c.val < 4 := c.isLt; have := k.isLt; omega⟩)
          * B (ValueIdx.ix2 ⟨c.val * 512 + k.val, by have : c.val < 4 := c.isLt; have := k.isLt; omega⟩ l) := by
  unfold P
  refine (pay_apply _ _ ⟨r.val % 512, Nat.mod_lt _ (by decide)⟩ l).trans (Finset.sum_congr rfl fun k _ => ?_)
  rw [wstg_eq, hB]
  unfold xrow
  rw [xstg_eq, hA]
  refine congrArg₂ (· * ·) (congrArg A ?_) (congrArg B ?_)
  · funext a
    apply Fin.ext
    match a with
    | ⟨0, _⟩ =>
      show 512 * (r.val / 512) + 1 * (r.val % 512) = r.val
      omega
    | ⟨1, _⟩ =>
      show c.val * 512 + (0 + 1 * k.val) = c.val * 512 + k.val
      omega
  · funext a
    apply Fin.ext
    match a with
    | ⟨0, _⟩ => rfl
    | ⟨1, _⟩ => rfl

/-- The sum of the four partial products is the one product over all 2048 positions. -/
theorem out_eq
    (hA : ∀ c : Dev nD, m (c.tc.loc main_arg0) = Layout.block ⟨2, ![2048, 512]⟩ ⟨2, ![2048, 2048]⟩ 1 4 c A)
    (hB : ∀ c : Dev nD, m (c.tc.loc main_arg1) = Layout.block ⟨2, ![512, 2048]⟩ ⟨2, ![2048, 2048]⟩ 0 4 c B) (r l : Fin 2048) :
    outAt (F := Ideal) m ρ (ValueIdx.ix2 r l) = ∑ k : Fin 2048, A (ValueIdx.ix2 r k) * B (ValueIdx.ix2 k l) := by
  rw [out_sum]
  rw [← Fin.sum_mul_add_fin 4 512 fun k : Fin 2048 => A (ValueIdx.ix2 r k) * B (ValueIdx.ix2 k l)]
  exact Finset.sum_congr rfl fun d _ => partial_apply m ρ A B d (hA d) (hB d) r l

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 65536 in
/-- The two printings of the kernel have the same text, so at machine words they have the same body tables. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l a
  match l, a with
  | ⟨0, _⟩, (t, s) => rfl
  | ⟨_ + 1, h⟩, _ => exact absurd h (Nat.not_lt.2 (Nat.le_add_left _ _))

/-- So they have the same tables of procedures. -/
theorem defs_eq : Cert.Kernel.defs (F := Bits) = Cert.KernelIdeal.defs (F := Bits) :=
  congrArg (Pipeline.defs (Cert.Kernel.pcfgs (F := Bits))) bodies_eq

/-- Every run of the kernel over machine words ends, with the operands as they were and every semaphore at zero. -/
theorem frame_kernel : Cert.quiescent_Kernel := fun m ρ _ => by
  rw [defs_eq]
  exact (θ_run Cert.KernelIdeal.defs _ _).mono
    (fun _ h => ⟨fun c => ⟨(h.1 c 0).trans (AllReduce.finalA_0 m ρ c), (h.1 c 1).trans (AllReduce.finalA_1 m ρ c)⟩, h.2⟩)
    (AllReduce.run_main (F := Bits) m ρ)

/-- The same over the extended reals. -/
theorem frame_kernelIdeal : Cert.quiescent_KernelIdeal := fun m ρ _ =>
  (θ_run Cert.KernelIdeal.defs _ _).mono
    (fun _ h => ⟨fun c => ⟨(h.1 c 0).trans (AllReduce.finalA_0 m ρ c), (h.1 c 1).trans (AllReduce.finalA_1 m ρ c)⟩, h.2⟩)
    (AllReduce.run_main (F := Ideal) m ρ)

/-- Every run of the reference ends, with its operands as they were; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals every device of the kernel returns what the reference computes from the whole operands. -/
theorem algebraic : Cert.algebraic_KernelIdeal_ReferenceIdeal := by
  intro m ρ m' ρ' _ hagree
  refine ⟨AllReduce.outAt (F := Ideal) m ρ, ?_, ?_⟩
  · exact (θ_run Cert.KernelIdeal.defs _ _).mono
      (fun _ h c => ⟨(h.1 c 2).trans (AllReduce.finalA_2 m ρ c), (h.1 c 0).trans (AllReduce.finalA_0 m ρ c),
        (h.1 c 1).trans (AllReduce.finalA_1 m ρ c)⟩)
      (AllReduce.run_main (F := Ideal) m ρ)
  · refine (θ_run Cert.ReferenceIdeal.defs _ _).mono (fun _ h => ⟨(h 0).1.trans ?_, (h 0).2⟩)
      (Cert.ReferenceIdeal.Value.run (F := Ideal) m' ρ')
    funext i
    have e : i = ValueIdx.ix2 (i 0) (i 1) := by
      funext a
      match a with
      | ⟨0, _⟩ => rfl
      | ⟨1, _⟩ => rfl
    rw [e]
    exact (AllReduce.ref_apply _ _ _ rfl (i 0) (i 1)).trans
      (AllReduce.out_eq m ρ _ _ (fun c => (hagree c).1) (fun c => (hagree c).2) (i 0) (i 1)).symm

/-- All five claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
